-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S1x2048x768 : Shape := ⟨3, ![1, 2048, 768]⟩
abbrev S768x4002 : Shape := ⟨2, ![768, 4002]⟩
abbrev S4002 : Shape := ⟨1, ![4002]⟩
abbrev S768x192 : Shape := ⟨2, ![768, 192]⟩
abbrev S192 : Shape := ⟨1, ![192]⟩
abbrev S192x16000 : Shape := ⟨2, ![192, 16000]⟩
abbrev S16000 : Shape := ⟨1, ![16000]⟩
abbrev S768x48 : Shape := ⟨2, ![768, 48]⟩
abbrev S48 : Shape := ⟨1, ![48]⟩
abbrev S48x80000 : Shape := ⟨2, ![48, 80000]⟩
abbrev S80000 : Shape := ⟨1, ![80000]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x4002 : S_.BroadcastsInDim S768x4002 (![] : Fin 0 → Fin S768x4002.rank)
  reducesTo_S768x4002_S_d0_1 : S768x4002.ReducesTo [0, 1] S_
  bcast_S_S4002 : S_.BroadcastsInDim S4002 (![] : Fin 0 → Fin S4002.rank)
  reducesTo_S4002_S_d0 : S4002.ReducesTo [0] S_
  bcast_S_S768x192 : S_.BroadcastsInDim S768x192 (![] : Fin 0 → Fin S768x192.rank)
  reducesTo_S768x192_S_d0_1 : S768x192.ReducesTo [0, 1] S_
  bcast_S_S192 : S_.BroadcastsInDim S192 (![] : Fin 0 → Fin S192.rank)
  reducesTo_S192_S_d0 : S192.ReducesTo [0] S_
  bcast_S_S192x16000 : S_.BroadcastsInDim S192x16000 (![] : Fin 0 → Fin S192x16000.rank)
  reducesTo_S192x16000_S_d0_1 : S192x16000.ReducesTo [0, 1] S_
  bcast_S_S16000 : S_.BroadcastsInDim S16000 (![] : Fin 0 → Fin S16000.rank)
  reducesTo_S16000_S_d0 : S16000.ReducesTo [0] S_
  bcast_S_S768x48 : S_.BroadcastsInDim S768x48 (![] : Fin 0 → Fin S768x48.rank)
  reducesTo_S768x48_S_d0_1 : S768x48.ReducesTo [0, 1] S_
  bcast_S_S48 : S_.BroadcastsInDim S48 (![] : Fin 0 → Fin S48.rank)
  reducesTo_S48_S_d0 : S48.ReducesTo [0] S_
  bcast_S_S48x80000 : S_.BroadcastsInDim S48x80000 (![] : Fin 0 → Fin S48x80000.rank)
  reducesTo_S48x80000_S_d0_1 : S48x80000.ReducesTo [0, 1] S_
  bcast_S_S80000 : S_.BroadcastsInDim S80000 (![] : Fin 0 → Fin S80000.rank)
  reducesTo_S80000_S_d0 : S80000.ReducesTo [0] S_

variable [Facts]

def fn_part3 {F : FTy → Type} [FloatOps F] (main_v48 : IVec S_ 1) (main_v49 : FVec F S80000 .f32) (main_v50 : FVec F S80000 .f32) : IVec S_ 1 :=
  let main_v51 : IVec S80000 1 := cmpf .olt main_v49 main_v50
  let main_c_19 : IVec S_ 1 := constantI S_ 1 1#1
  let main_v52 : IVec S_ 1 := (fun x v => Host.reduce IntOp.andi x v reducesTo_S80000_S_d0 h_S_) main_v51 main_c_19
  let main_v53 : IVec S_ 1 := andi main_v48 main_v52
  main_v53

def fn_part2 {F : FTy → Type} [FloatOps F] (main_arg7 : FVec F S768x48 .f32) (main_arg8 : FVec F S48 .f32) (main_arg9 : FVec F S48x80000 .f32) (main_arg10 : FVec F S80000 .f32) (main_v33 : IVec S_ 1) : IVec S_ 1 :=
  let main_v34 : FVec F S768x48 .f32 := Host.absf main_arg7
  let main_cst_12 : FVec F S_ .f32 := constant S_ .f32 0x7F800000#32
  let main_v35 : FVec F S768x48 .f32 := broadcastInDim S768x48 ![] bcast_S_S768x48 main_cst_12
  let main_v36 : IVec S768x48 1 := cmpf .olt main_v34 main_v35
  let main_c_13 : IVec S_ 1 := constantI S_ 1 1#1
  let main_v37 : IVec S_ 1 := (fun x v => Host.reduce IntOp.andi x v reducesTo_S768x48_S_d0_1 h_S_) main_v36 main_c_13
  let main_v38 : IVec S_ 1 := andi main_v33 main_v37
  let main_v39 : FVec F S48 .f32 := Host.absf main_arg8
  let main_cst_14 : FVec F S_ .f32 := constant S_ .f32 0x7F800000#32
  let main_v40 : FVec F S48 .f32 := broadcastInDim S48 ![] bcast_S_S48 main_cst_14
  let main_v41 : IVec S48 1 := cmpf .olt main_v39 main_v40
  let main_c_15 : IVec S_ 1 := constantI S_ 1 1#1
  let main_v42 : IVec S_ 1 := (fun x v => Host.reduce IntOp.andi x v reducesTo_S48_S_d0 h_S_) main_v41 main_c_15
  let main_v43 : IVec S_ 1 := andi main_v38 main_v42
  let main_v44 : FVec F S48x80000 .f32 := Host.absf main_arg9
  let main_cst_16 : FVec F S_ .f32 := constant S_ .f32 0x7F800000#32
  let main_v45 : FVec F S48x80000 .f32 := broadcastInDim S48x80000 ![] bcast_S_S48x80000 main_cst_16
  let main_v46 : IVec S48x80000 1 := cmpf .olt main_v44 main_v45
  let main_c_17 : IVec S_ 1 := constantI S_ 1 1#1
  let main_v47 : IVec S_ 1 := (fun x v => Host.reduce IntOp.andi x v reducesTo_S48x80000_S_d0_1 h_S_) main_v46 main_c_17
  let main_v48 : IVec S_ 1 := andi main_v43 main_v47
  let main_v49 : FVec F S80000 .f32 := Host.absf main_arg10
  let main_cst_18 : FVec F S_ .f32 := constant S_ .f32 0x7F800000#32
  let main_v50 : FVec F S80000 .f32 := broadcastInDim S80000 ![] bcast_S_S80000 main_cst_18
  fn_part3 (F := F) main_v48 main_v49 main_v50

def fn_part1 {F : FTy → Type} [FloatOps F] (main_arg4 : FVec F S192 .f32) (main_arg5 : FVec F S192x16000 .f32) (main_arg6 : FVec F S16000 .f32) (main_arg7 : FVec F S768x48 .f32) (main_arg8 : FVec F S48 .f32) (main_arg9 : FVec F S48x80000 .f32) (main_arg10 : FVec F S80000 .f32) (main_v13 : IVec S_ 1) (main_v16 : IVec S768x192 1) : IVec S_ 1 :=
  let main_c_5 : IVec S_ 1 := constantI S_ 1 1#1
  let main_v17 : IVec S_ 1 := (fun x v => Host.reduce IntOp.andi x v reducesTo_S768x192_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192x16000 .f32 := Host.absf main_arg5
  let main_cst_8 : FVec F S_ .f32 := constant S_ .f32 0x7F800000#32
  let main_v25 : FVec F S192x16000 .f32 := broadcastInDim S192x16000 ![] bcast_S_S192x16000 main_cst_8
  let main_v26 : IVec S192x16000 1 := cmpf .olt main_v24 main_v25
  let main_c_9 : IVec S_ 1 := constantI S_ 1 1#1
  let main_v27 : IVec S_ 1 := (fun x v => Host.reduce IntOp.andi x v reducesTo_S192x16000_S_d0_1 h_S_) main_v26 main_c_9
  let main_v28 : IVec S_ 1 := andi main_v23 main_v27
  let main_v29 : FVec F S16000 .f32 := Host.absf main_arg6
  let main_cst_10 : FVec F S_ .f32 := constant S_ .f32 0x7F800000#32
  let main_v30 : FVec F S16000 .f32 := broadcastInDim S16000 ![] bcast_S_S16000 main_cst_10
  let main_v31 : IVec S16000 1 := cmpf .olt main_v29 main_v30
  let main_c_11 : IVec S_ 1 := constantI S_ 1 1#1
  let main_v32 : IVec S_ 1 := (fun x v => Host.reduce IntOp.andi x v reducesTo_S16000_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1x2048x768 .f32) (main_arg1 : FVec F S768x4002 .f32) (main_arg2 : FVec F S4002 .f32) (main_arg3 : FVec F S768x192 .f32) (main_arg4 : FVec F S192 .f32) (main_arg5 : FVec F S192x16000 .f32) (main_arg6 : FVec F S16000 .f32) (main_arg7 : FVec F S768x48 .f32) (main_arg8 : FVec F S48 .f32) (main_arg9 : FVec F S48x80000 .f32) (main_arg10 : FVec F S80000 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x4002 .f32 := Host.absf main_arg1
  let main_cst_0 : FVec F S_ .f32 := constant S_ .f32 0x7F800000#32
  let main_v5 : FVec F S768x4002 .f32 := broadcastInDim S768x4002 ![] bcast_S_S768x4002 main_cst_0
  let main_v6 : IVec S768x4002 1 := cmpf .olt main_v4 main_v5
  let main_c_1 : IVec S_ 1 := constantI S_ 1 1#1
  let main_v7 : IVec S_ 1 := (fun x v => Host.reduce IntOp.andi x v reducesTo_S768x4002_S_d0_1 h_S_) main_v6 main_c_1
  let main_v8 : IVec S_ 1 := andi main_v3 main_v7
  let main_v9 : FVec F S4002 .f32 := Host.absf main_arg2
  let main_cst_2 : FVec F S_ .f32 := constant S_ .f32 0x7F800000#32
  let main_v10 : FVec F S4002 .f32 := broadcastInDim S4002 ![] bcast_S_S4002 main_cst_2
  let main_v11 : IVec S4002 1 := cmpf .olt main_v9 main_v10
  let main_c_3 : IVec S_ 1 := constantI S_ 1 1#1
  let main_v12 : IVec S_ 1 := (fun x v => Host.reduce IntOp.andi x v reducesTo_S4002_S_d0 h_S_) main_v11 main_c_3
  let main_v13 : IVec S_ 1 := andi main_v8 main_v12
  let main_v14 : FVec F S768x192 .f32 := Host.absf main_arg3
  let main_cst_4 : FVec F S_ .f32 := constant S_ .f32 0x7F800000#32
  let main_v15 : FVec F S768x192 .f32 := broadcastInDim S768x192 ![] bcast_S_S768x192 main_cst_4
  let main_v16 : IVec S768x192 1 := cmpf .olt main_v14 main_v15
  fn_part1 (F := F) main_arg4 main_arg5 main_arg6 main_arg7 main_arg8 main_arg9 main_arg10 main_v13 main_v16
-- ==== Kernel.lean ====
abbrev S1x2048x768 : Shape := ⟨3, ![1, 2048, 768]⟩
abbrev S768x4002 : Shape := ⟨2, ![768, 4002]⟩
abbrev S4002 : Shape := ⟨1, ![4002]⟩
abbrev S768x192 : Shape := ⟨2, ![768, 192]⟩
abbrev S192 : Shape := ⟨1, ![192]⟩
abbrev S192x16000 : Shape := ⟨2, ![192, 16000]⟩
abbrev S16000 : Shape := ⟨1, ![16000]⟩
abbrev S768x48 : Shape := ⟨2, ![768, 48]⟩
abbrev S48 : Shape := ⟨1, ![48]⟩
abbrev S48x80000 : Shape := ⟨2, ![48, 80000]⟩
abbrev S80000 : Shape := ⟨1, ![80000]⟩
abbrev S4002x768 : Shape := ⟨2, ![4002, 768]⟩
abbrev S192x768 : Shape := ⟨2, ![192, 768]⟩
abbrev S48x768 : Shape := ⟨2, ![48, 768]⟩
abbrev S16000x192 : Shape := ⟨2, ![16000, 192]⟩
abbrev S80000x48 : Shape := ⟨2, ![80000, 48]⟩
abbrev S4002x1 : Shape := ⟨2, ![4002, 1]⟩
abbrev S192x1 : Shape := ⟨2, ![192, 1]⟩
abbrev S48x1 : Shape := ⟨2, ![48, 1]⟩
abbrev S16000x1 : Shape := ⟨2, ![16000, 1]⟩
abbrev S80000x1 : Shape := ⟨2, ![80000, 1]⟩
abbrev S1x16000 : Shape := ⟨2, ![1, 16000]⟩
abbrev S1x80000 : Shape := ⟨2, ![1, 80000]⟩
abbrev S4002x2048 : Shape := ⟨2, ![4002, 2048]⟩
abbrev S192x2048 : Shape := ⟨2, ![192, 2048]⟩
abbrev S48x2048 : Shape := ⟨2, ![48, 2048]⟩
abbrev S8x2048 : Shape := ⟨2, ![8, 2048]⟩
abbrev S1x256x768 : Shape := ⟨3, ![1, 256, 768]⟩
abbrev S4002x256 : Shape := ⟨2, ![4002, 256]⟩
abbrev S192x256 : Shape := ⟨2, ![192, 256]⟩
abbrev S48x256 : Shape := ⟨2, ![48, 256]⟩
abbrev S8x256 : Shape := ⟨2, ![8, 256]⟩
abbrev S256x768 : Shape := ⟨2, ![256, 768]⟩
abbrev S768x256 : Shape := ⟨2, ![768, 256]⟩
abbrev S256 : Shape := ⟨1, ![256]⟩
abbrev S1x256 : Shape := ⟨2, ![1, 256]⟩
abbrev S256x192 : Shape := ⟨2, ![256, 192]⟩
abbrev S256x1 : Shape := ⟨2, ![256, 1]⟩
abbrev S192x3200 : Shape := ⟨2, ![192, 3200]⟩
abbrev S256x3200 : Shape := ⟨2, ![256, 3200]⟩
abbrev S1x3200 : Shape := ⟨2, ![1, 3200]⟩
abbrev S3200 : Shape := ⟨1, ![3200]⟩
abbrev S256x48 : Shape := ⟨2, ![256, 48]⟩
abbrev S48x3200 : Shape := ⟨2, ![48, 3200]⟩
abbrev S256x8 : Shape := ⟨2, ![256, 8]⟩
abbrev S1x100000x2048 : Shape := ⟨3, ![1, 100000, 2048]⟩
abbrev S512x2048 : Shape := ⟨2, ![512, 2048]⟩
abbrev S512x192 : Shape := ⟨2, ![512, 192]⟩
abbrev S512x1 : Shape := ⟨2, ![512, 1]⟩
abbrev S512x48 : Shape := ⟨2, ![512, 48]⟩
abbrev S1x512x2048 : Shape := ⟨3, ![1, 512, 2048]⟩
abbrev S416x192 : Shape := ⟨2, ![416, 192]⟩
abbrev S96x192 : Shape := ⟨2, ![96, 192]⟩
abbrev S416x1 : Shape := ⟨2, ![416, 1]⟩
abbrev S96x1 : Shape := ⟨2, ![96, 1]⟩
abbrev S1x2048 : Shape := ⟨2, ![1, 2048]⟩
abbrev S32x48 : Shape := ⟨2, ![32, 48]⟩
abbrev S480x48 : Shape := ⟨2, ![480, 48]⟩
abbrev S32x1 : Shape := ⟨2, ![32, 1]⟩
abbrev S480x1 : Shape := ⟨2, ![480, 1]⟩
abbrev S1x2048x100000 : Shape := ⟨3, ![1, 2048, 100000]⟩

abbrev nBuf : Space → Nat
  | .hbm => 29
  | .vmem => 43
  | .smem => 0
  | _ => 0

abbrev bufTy : (tb : Table) → Fin (tcTables nBuf tb) → BufTy
  | .hbm, ⟨0, _⟩ => ⟨S1x2048x768, .f32⟩
  | .hbm, ⟨1, _⟩ => ⟨S768x4002, .f32⟩
  | .hbm, ⟨2, _⟩ => ⟨S4002, .f32⟩
  | .hbm, ⟨3, _⟩ => ⟨S768x192, .f32⟩
  | .hbm, ⟨4, _⟩ => ⟨S192, .f32⟩
  | .hbm, ⟨5, _⟩ => ⟨S192x16000, .f32⟩
  | .hbm, ⟨6, _⟩ => ⟨S16000, .f32⟩
  | .hbm, ⟨7, _⟩ => ⟨S768x48, .f32⟩
  | .hbm, ⟨8, _⟩ => ⟨S48, .f32⟩
  | .hbm, ⟨9, _⟩ => ⟨S48x80000, .f32⟩
  | .hbm, ⟨10, _⟩ => ⟨S80000, .f32⟩
  | .hbm, ⟨11, _⟩ => ⟨S4002x768, .f32⟩
  | .hbm, ⟨12, _⟩ => ⟨S192x768, .f32⟩
  | .hbm, ⟨13, _⟩ => ⟨S48x768, .f32⟩
  | .hbm, ⟨14, _⟩ => ⟨S16000x192, .f32⟩
  | .hbm, ⟨15, _⟩ => ⟨S80000x48, .f32⟩
  | .hbm, ⟨16, _⟩ => ⟨S4002x1, .f32⟩
  | .hbm, ⟨17, _⟩ => ⟨S192x1, .f32⟩
  | .hbm, ⟨18, _⟩ => ⟨S48x1, .f32⟩
  | .hbm, ⟨19, _⟩ => ⟨S16000x1, .f32⟩
  | .hbm, ⟨20, _⟩ => ⟨S80000x1, .f32⟩
  | .hbm, ⟨21, _⟩ => ⟨S1x16000, .f32⟩
  | .hbm, ⟨22, _⟩ => ⟨S1x80000, .f32⟩
  | .hbm, ⟨23, _⟩ => ⟨S4002x2048, .f32⟩
  | .hbm, ⟨24, _⟩ => ⟨S192x2048, .bf16⟩
  | .hbm, ⟨25, _⟩ => ⟨S48x2048, .bf16⟩
  | .hbm, ⟨26, _⟩ => ⟨S8x2048, .f32⟩
  | .hbm, ⟨27, _⟩ => ⟨S1x100000x2048, .f32⟩
  | .hbm, ⟨28, _⟩ => ⟨S1x2048x100000, .f32⟩
  | .local _ .vmem, ⟨0, _⟩ => ⟨S1x256x768, .f32⟩
  | .local _ .vmem, ⟨1, _⟩ => ⟨S1x256x768, .f32⟩
  | .local _ .vmem, ⟨2, _⟩ => ⟨S4002x768, .f32⟩
  | .local _ .vmem, ⟨3, _⟩ => ⟨S4002x1, .f32⟩
  | .local _ .vmem, ⟨4, _⟩ => ⟨S192x768, .f32⟩
  | .local _ .vmem, ⟨5, _⟩ => ⟨S192x1, .f32⟩
  | .local _ .vmem, ⟨6, _⟩ => ⟨S192x16000, .f32⟩
  | .local _ .vmem, ⟨7, _⟩ => ⟨S1x16000, .f32⟩
  | .local _ .vmem, ⟨8, _⟩ => ⟨S48x768, .f32⟩
  | .local _ .vmem, ⟨9, _⟩ => ⟨S48x1, .f32⟩
  | .local _ .vmem, ⟨10, _⟩ => ⟨S48x80000, .f32⟩
  | .local _ .vmem, ⟨11, _⟩ => ⟨S1x80000, .f32⟩
  | .local _ .vmem, ⟨12, _⟩ => ⟨S4002x256, .f32⟩
  | .local _ .vmem, ⟨13, _⟩ => ⟨S4002x256, .f32⟩
  | .local _ .vmem, ⟨14, _⟩ => ⟨S192x256, .bf16⟩
  | .local _ .vmem, ⟨15, _⟩ => ⟨S192x256, .bf16⟩
  | .local _ .vmem, ⟨16, _⟩ => ⟨S48x256, .bf16⟩
  | .local _ .vmem, ⟨17, _⟩ => ⟨S48x256, .bf16⟩
  | .local _ .vmem, ⟨18, _⟩ => ⟨S8x256, .f32⟩
  | .local _ .vmem, ⟨19, _⟩ => ⟨S8x256, .f32⟩
  | .local _ .vmem, ⟨20, _⟩ => ⟨S512x2048, .f32⟩
  | .local _ .vmem, ⟨21, _⟩ => ⟨S512x2048, .f32⟩
  | .local _ .vmem, ⟨22, _⟩ => ⟨S192x2048, .bf16⟩
  | .local _ .vmem, ⟨23, _⟩ => ⟨S48x2048, .bf16⟩
  | .local _ .vmem, ⟨24, _⟩ => ⟨S8x2048, .f32⟩
  | .local _ .vmem, ⟨25, _⟩ => ⟨S512x192, .f32⟩
  | .local _ .vmem, ⟨26, _⟩ => ⟨S512x192, .f32⟩
  | .local _ .vmem, ⟨27, _⟩ => ⟨S512x192, .f32⟩
  | .local _ .vmem, ⟨28, _⟩ => ⟨S512x192, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x48, .f32⟩
  | .local _ .vmem, ⟨34, _⟩ => ⟨S512x48, .f32⟩
  | .local _ .vmem, ⟨35, _⟩ => ⟨S512x48, .f32⟩
  | .local _ .vmem, ⟨36, _⟩ => ⟨S512x48, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S1x512x2048, .f32⟩
  | .local _ .vmem, ⟨42, _⟩ => ⟨S1x512x2048, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v12_3 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc1_stg6_0 : Ref sig .tc := ⟨.vmem, 29, rfl⟩
abbrev cc1_stg6_1 : Ref sig .tc := ⟨.vmem, 30, rfl⟩
abbrev cc1_stg7_0 : Ref sig .tc := ⟨.vmem, 31, rfl⟩
abbrev cc1_stg7_1 : Ref sig .tc := ⟨.vmem, 32, rfl⟩
abbrev cc1_stg8_0 : Ref sig .tc := ⟨.vmem, 33, rfl⟩
abbrev cc1_stg8_1 : Ref sig .tc := ⟨.vmem, 34, rfl⟩
abbrev cc1_stg9_0 : Ref sig .tc := ⟨.vmem, 35, rfl⟩
abbrev cc1_stg9_1 : Ref sig .tc := ⟨.vmem, 36, rfl⟩
abbrev cc1_stg10_0 : Ref sig .tc := ⟨.vmem, 37, rfl⟩
abbrev cc1_stg10_1 : Ref sig .tc := ⟨.vmem, 38, rfl⟩
abbrev cc1_stg11_0 : Ref sig .tc := ⟨.vmem, 39, rfl⟩
abbrev cc1_stg11_1 : Ref sig .tc := ⟨.vmem, 40, rfl⟩
abbrev cc1_stg12_0 : Ref sig .tc := ⟨.vmem, 41, rfl⟩
abbrev cc1_stg12_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc1_sem0_0 : DmaSem sig := 20
abbrev cc1_sem0_1 : DmaSem sig := 21
abbrev cc1_sem1_0 : DmaSem sig := 22
abbrev cc1_sem2_0 : DmaSem sig := 23
abbrev cc1_sem3_0 : DmaSem sig := 24
abbrev cc1_sem4_0 : DmaSem sig := 25
abbrev cc1_sem4_1 : DmaSem sig := 26
abbrev cc1_sem5_0 : DmaSem sig := 27
abbrev cc1_sem5_1 : DmaSem sig := 28
abbrev cc1_sem6_0 : DmaSem sig := 29
abbrev cc1_sem6_1 : DmaSem sig := 30
abbrev cc1_sem7_0 : DmaSem sig := 31
abbrev cc1_sem7_1 : DmaSem sig := 32
abbrev cc1_sem8_0 : DmaSem sig := 33
abbrev cc1_sem8_1 : DmaSem sig := 34
abbrev cc1_sem9_0 : DmaSem sig := 35
abbrev cc1_sem9_1 : DmaSem sig := 36
abbrev cc1_sem10_0 : DmaSem sig := 37
abbrev cc1_sem10_1 : DmaSem sig := 38
abbrev cc1_sem11_0 : DmaSem sig := 39
abbrev cc1_sem11_1 : DmaSem sig := 40
abbrev cc1_sem12_0 : DmaSem sig := 41
abbrev cc1_sem12_1 : DmaSem sig := 42

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c5_i32 : BitVec 32 := 5#32
  let v52 : BitVec 32 := Scalar.addi c0_i32 c5_i32
  let c1_i32 : BitVec 32 := 1#32
  ⟨c0_i32, v52, c1_i32⟩
def k0_off1 (k0_t1 : Fin k0_t1_loop.trips) : Fin 2 → Nat :=
  let c0_36 : Index := 0#32
  let c0_i32 : BitVec 32 := 0#32
  let c1_i32 : BitVec 32 := 1#32
  let arg16 : BitVec 32 := Scf.iv c0_i32 c1_i32 k0_t1
  let c3200_i32 : BitVec 32 := 3200#32
  let v67 : BitVec 32 := Scalar.muli arg16 c3200_i32
  let v68 : Index := Scalar.indexCast v67
  ![0, v68.toNat]
def k0_off2 (k0_t1 : Fin k0_t1_loop.trips) : Fin 2 → Nat :=
  let c0_38 : Index := 0#32
  let c0_i32 : BitVec 32 := 0#32
  let c1_i32 : BitVec 32 := 1#32
  let arg16 : BitVec 32 := Scf.iv c0_i32 c1_i32 k0_t1
  let c3200_i32 : BitVec 32 := 3200#32
  let v67 : BitVec 32 := Scalar.muli arg16 c3200_i32
  let v72 : Index := Scalar.indexCast v67
  ![0, v72.toNat]
@[reducible] def k0_t2_loop : Scf.Loop 32 :=
  let c0_i32_30 : BitVec 32 := 0#32
  let c25_i32 : BitVec 32 := 25#32
  let v57 : BitVec 32 := Scalar.addi c0_i32_30 c25_i32
  let c1_i32_31 : BitVec 32 := 1#32
  ⟨c0_i32_30, v57, c1_i32_31⟩
def k0_off3 (k0_t2 : Fin k0_t2_loop.trips) : Fin 2 → Nat :=
  let c0_36 : Index := 0#32
  let c0_i32_30 : BitVec 32 := 0#32
  let c1_i32_31 : BitVec 32 := 1#32
  let arg16 : BitVec 32 := Scf.iv c0_i32_30 c1_i32_31 k0_t2
  let c3200_i32 : BitVec 32 := 3200#32
  let v67 : BitVec 32 := Scalar.muli arg16 c3200_i32
  let v68 : Index := Scalar.indexCast v67
  ![0, v68.toNat]
def k0_off4 (k0_t2 : Fin k0_t2_loop.trips) : Fin 2 → Nat :=
  let c0_38 : Index := 0#32
  let c0_i32_30 : BitVec 32 := 0#32
  let c1_i32_31 : BitVec 32 := 1#32
  let arg16 : BitVec 32 := Scf.iv c0_i32_30 c1_i32_31 k0_t2
  let c3200_i32 : BitVec 32 := 3200#32
  let v67 : BitVec 32 := Scalar.muli arg16 c3200_i32
  let v72 : Index := Scalar.indexCast v67
  ![0, v72.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4002x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4002x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S192x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S192x16000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x80000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x80000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S4002x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S192x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S48x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev grid1 : Pipeline.Grid := ⟨2, ![1, 196], ![false, false]⟩

def k1_cond1 (i : grid1.Coords) : BitVec 1 :=
  let arg1 : BitVec 32 := BitVec.ofNat 32 (i 1).val
  let c7_i32 : BitVec 32 := 7#32
  let v0 : BitVec 1 := Scalar.cmpi .slt arg1 c7_i32
  let v1 : BitVec 32 := Scalar.extui v0
  let c0_i32 : BitVec 32 := 0#32
  let v2 : BitVec 1 := Scalar.cmpi .ne v1 c0_i32
  v2

def k1_cond2 (i : grid1.Coords) : BitVec 1 :=
  let arg1 : BitVec 32 := BitVec.ofNat 32 (i 1).val
  let c7_i32_0 : BitVec 32 := 7#32
  let v3 : BitVec 1 := Scalar.cmpi .eq arg1 c7_i32_0
  let v4 : BitVec 32 := Scalar.extui v3
  let c0_i32_1 : BitVec 32 := 0#32
  let v5 : BitVec 1 := Scalar.cmpi .ne v4 c0_i32_1
  v5

def k1_cond3 (i : grid1.Coords) : BitVec 1 :=
  let arg1 : BitVec 32 := BitVec.ofNat 32 (i 1).val
  let c7_i32_2 : BitVec 32 := 7#32
  let v6 : BitVec 1 := Scalar.cmpi .sgt arg1 c7_i32_2
  let c39_i32 : BitVec 32 := 39#32
  let v7 : BitVec 1 := Scalar.cmpi .slt arg1 c39_i32
  let v8 : BitVec 1 := Scalar.andi v6 v7
  let v9 : BitVec 32 := Scalar.extui v8
  let c0_i32_3 : BitVec 32 := 0#32
  let v10 : BitVec 1 := Scalar.cmpi .ne v9 c0_i32_3
  v10

def k1_cond4 (i : grid1.Coords) : BitVec 1 :=
  let arg1 : BitVec 32 := BitVec.ofNat 32 (i 1).val
  let c39_i32_4 : BitVec 32 := 39#32
  let v11 : BitVec 1 := Scalar.cmpi .eq arg1 c39_i32_4
  let v12 : BitVec 32 := Scalar.extui v11
  let c0_i32_5 : BitVec 32 := 0#32
  let v13 : BitVec 1 := Scalar.cmpi .ne v12 c0_i32_5
  v13

def k1_cond5 (i : grid1.Coords) : BitVec 1 :=
  let arg1 : BitVec 32 := BitVec.ofNat 32 (i 1).val
  let c39_i32_6 : BitVec 32 := 39#32
  let v14 : BitVec 1 := Scalar.cmpi .sgt arg1 c39_i32_6
  let v15 : BitVec 32 := Scalar.extui v14
  let c0_i32_7 : BitVec 32 := 0#32
  let v16 : BitVec 1 := Scalar.cmpi .ne v15 c0_i32_7
  v16

def cc1_transform_0 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc1_transform_5 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc1_transform_6 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c1_i32 : BitVec 32 := 1#32
  let v1 : BitVec 32 := Scalar.subi v0 c1_i32
  let c0_i32 : BitVec 32 := 0#32
  let c31_i32 : BitVec 32 := 31#32
  let v2 : BitVec 32 := Scalar.maxsi c0_i32 v1
  let v3 : BitVec 32 := Scalar.minsi c31_i32 v2
  let c0_i32_0 : BitVec 32 := 0#32
  let c0_i32_1 : BitVec 32 := 0#32
  ![v3.toNat, c0_i32_0.toNat]

def cc1_transform_7 (i : grid1.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi arg1 c7_i32
  let c0_i32 : BitVec 32 := 0#32
  let c31_i32 : BitVec 32 := 31#32
  let v1 : BitVec 32 := Scalar.maxsi c0_i32 v0
  let v2 : BitVec 32 := Scalar.minsi c31_i32 v1
  let c0_i32_0 : BitVec 32 := 0#32
  let c0_i32_1 : BitVec 32 := 0#32
  ![v2.toNat, c0_i32_0.toNat]

def cc1_transform_8 (i : grid1.Coords) : Fin 2 → Nat :=
  let arg0 : BitVec 32 := BitVec.ofNat 32 (i 0).val
  let arg1 : BitVec 32 := BitVec.ofNat 32 (i 1).val
  let c39_i32 : BitVec 32 := 39#32
  let v0 : BitVec 32 := Scalar.subi arg1 c39_i32
  let c1_i32 : BitVec 32 := 1#32
  let v1 : BitVec 32 := Scalar.subi v0 c1_i32
  let c0_i32 : BitVec 32 := 0#32
  let c156_i32 : BitVec 32 := 156#32
  let v2 : BitVec 32 := Scalar.maxsi c0_i32 v1
  let v3 : BitVec 32 := Scalar.minsi c156_i32 v2
  let c0_i32_0 : BitVec 32 := 0#32
  let c0_i32_1 : BitVec 32 := 0#32
  ![v3.toNat, c0_i32_0.toNat]

def cc1_transform_9 (i : grid1.Coords) : Fin 2 → Nat :=
  let arg0 : BitVec 32 := BitVec.ofNat 32 (i 0).val
  let arg1 : BitVec 32 := BitVec.ofNat 32 (i 1).val
  let c39_i32 : BitVec 32 := 39#32
  let v0 : BitVec 32 := Scalar.subi arg1 c39_i32
  let c0_i32 : BitVec 32 := 0#32
  let c156_i32 : BitVec 32 := 156#32
  let v1 : BitVec 32 := Scalar.maxsi c0_i32 v0
  let v2 : BitVec 32 := Scalar.minsi c156_i32 v1
  let c0_i32_0 : BitVec 32 := 0#32
  let c0_i32_1 : BitVec 32 := 0#32
  ![v2.toNat, c0_i32_0.toNat]

def cc1_transform_10 (i : grid1.Coords) : Fin 2 → Nat :=
  let arg0 : BitVec 32 := BitVec.ofNat 32 (i 0).val
  let arg1 : BitVec 32 := BitVec.ofNat 32 (i 1).val
  let c39_i32 : BitVec 32 := 39#32
  let v0 : BitVec 32 := Scalar.subi arg1 c39_i32
  let c1_i32 : BitVec 32 := 1#32
  let v1 : BitVec 32 := Scalar.subi v0 c1_i32
  let c0_i32 : BitVec 32 := 0#32
  let c156_i32 : BitVec 32 := 156#32
  let v2 : BitVec 32 := Scalar.maxsi c0_i32 v1
  let v3 : BitVec 32 := Scalar.minsi c156_i32 v2
  let c0_i32_0 : BitVec 32 := 0#32
  let c0_i32_1 : BitVec 32 := 0#32
  ![v3.toNat, c0_i32_0.toNat]

def cc1_transform_11 (i : grid1.Coords) : Fin 2 → Nat :=
  let arg0 : BitVec 32 := BitVec.ofNat 32 (i 0).val
  let arg1 : BitVec 32 := BitVec.ofNat 32 (i 1).val
  let c39_i32 : BitVec 32 := 39#32
  let v0 : BitVec 32 := Scalar.subi arg1 c39_i32
  let c0_i32 : BitVec 32 := 0#32
  let c156_i32 : BitVec 32 := 156#32
  let v1 : BitVec 32 := Scalar.maxsi c0_i32 v0
  let v2 : BitVec 32 := Scalar.minsi c156_i32 v1
  let c0_i32_0 : BitVec 32 := 0#32
  let c0_i32_1 : BitVec 32 := 0#32
  ![v2.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S192x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, false]

abbrev stage1_2 : Fin 1 → Memref sig .tc .vmem S48x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![true, false]

abbrev stage1_3 : Fin 1 → Memref sig .tc .vmem S8x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S512x192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S512x192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S512x48 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S512x48 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![false, true]

abbrev stage1_10 : Fin 2 → Memref sig .tc .vmem S512x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![false, true]

abbrev stage1_11 : Fin 2 → Memref sig .tc .vmem S512x1 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![false, true]

abbrev stage1_12 : Fin 2 → Memref sig .tc .vmem S1x512x2048 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]
-- ==== ReferenceIdeal.lean ====
abbrev S1x2048x768 : Shape := ⟨3, ![1, 2048, 768]⟩
abbrev S768x4002 : Shape := ⟨2, ![768, 4002]⟩
abbrev S4002 : Shape := ⟨1, ![4002]⟩
abbrev S768x192 : Shape := ⟨2, ![768, 192]⟩
abbrev S192 : Shape := ⟨1, ![192]⟩
abbrev S192x16000 : Shape := ⟨2, ![192, 16000]⟩
abbrev S16000 : Shape := ⟨1, ![16000]⟩
abbrev S768x48 : Shape := ⟨2, ![768, 48]⟩
abbrev S48 : Shape := ⟨1, ![48]⟩
abbrev S48x80000 : Shape := ⟨2, ![48, 80000]⟩
abbrev S80000 : Shape := ⟨1, ![80000]⟩
abbrev S1x2048x4002 : Shape := ⟨3, ![1, 2048, 4002]⟩
abbrev S1x1x4002 : Shape := ⟨3, ![1, 1, 4002]⟩
abbrev S_ : Shape := ⟨0, ![]⟩
abbrev S1x2048 : Shape := ⟨2, ![1, 2048]⟩
abbrev S1x2048x1 : Shape := ⟨3, ![1, 2048, 1]⟩
abbrev S1x2048x4000 : Shape := ⟨3, ![1, 2048, 4000]⟩
abbrev S1x2048x192 : Shape := ⟨3, ![1, 2048, 192]⟩
abbrev S1x1x192 : Shape := ⟨3, ![1, 1, 192]⟩
abbrev S1x2048x16000 : Shape := ⟨3, ![1, 2048, 16000]⟩
abbrev S1x1x16000 : Shape := ⟨3, ![1, 1, 16000]⟩
abbrev S1x2048x20000 : Shape := ⟨3, ![1, 2048, 20000]⟩
abbrev S1x2048x48 : Shape := ⟨3, ![1, 2048, 48]⟩
abbrev S1x1x48 : Shape := ⟨3, ![1, 1, 48]⟩
abbrev S1x2048x80000 : Shape := ⟨3, ![1, 2048, 80000]⟩
abbrev S1x1x80000 : Shape := ⟨3, ![1, 1, 80000]⟩
abbrev S1x2048x100000 : Shape := ⟨3, ![1, 2048, 100000]⟩

abbrev nBuf : Space → Nat
  | .hbm => 82
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x4002, .f32⟩
  | .hbm, ⟨2, _⟩ => ⟨S4002, .f32⟩
  | .hbm, ⟨3, _⟩ => ⟨S768x192, .f32⟩
  | .hbm, ⟨4, _⟩ => ⟨S192, .f32⟩
  | .hbm, ⟨5, _⟩ => ⟨S192x16000, .f32⟩
  | .hbm, ⟨6, _⟩ => ⟨S16000, .f32⟩
  | .hbm, ⟨7, _⟩ => ⟨S768x48, .f32⟩
  | .hbm, ⟨8, _⟩ => ⟨S48, .f32⟩
  | .hbm, ⟨9, _⟩ => ⟨S48x80000, .f32⟩
  | .hbm, ⟨10, _⟩ => ⟨S80000, .f32⟩
  | .hbm, ⟨11, _⟩ => ⟨S1x2048x4002, .f32⟩
  | .hbm, ⟨12, _⟩ => ⟨S1x1x4002, .f32⟩
  | .hbm, ⟨13, _⟩ => ⟨S1x2048x4002, .f32⟩
  | .hbm, ⟨14, _⟩ => ⟨S1x2048x4002, .f32⟩
  | .hbm, ⟨15, _⟩ => ⟨S_, .f32⟩
  | .hbm, ⟨16, _⟩ => ⟨S1x2048, .f32⟩
  | .hbm, ⟨17, _⟩ => ⟨S_, .f32⟩
  | .hbm, ⟨18, _⟩ => ⟨S1x2048, .f32⟩
  | .hbm, ⟨19, _⟩ => ⟨S1x2048, .f32⟩
  | .hbm, ⟨20, _⟩ => ⟨S1x2048x1, .f32⟩
  | .hbm, ⟨21, _⟩ => ⟨S1x2048x4002, .f32⟩
  | .hbm, ⟨22, _⟩ => ⟨S1x2048x4002, .f32⟩
  | .hbm, ⟨23, _⟩ => ⟨S1x2048x4002, .f32⟩
  | .hbm, ⟨24, _⟩ => ⟨S_, .f32⟩
  | .hbm, ⟨25, _⟩ => ⟨S1x2048, .f32⟩
  | .hbm, ⟨26, _⟩ => ⟨S1x2048x1, .f32⟩
  | .hbm, ⟨27, _⟩ => ⟨S1x2048x4002, .f32⟩
  | .hbm, ⟨28, _⟩ => ⟨S1x2048x4002, .f32⟩
  | .hbm, ⟨29, _⟩ => ⟨S1x2048x4000, .f32⟩
  | .hbm, ⟨30, _⟩ => ⟨S1x2048x192, .f32⟩
  | .hbm, ⟨31, _⟩ => ⟨S1x1x192, .f32⟩
  | .hbm, ⟨32, _⟩ => ⟨S1x2048x192, .f32⟩
  | .hbm, ⟨33, _⟩ => ⟨S1x2048x192, .f32⟩
  | .hbm, ⟨34, _⟩ => ⟨S1x2048x16000, .f32⟩
  | .hbm, ⟨35, _⟩ => ⟨S1x1x16000, .f32⟩
  | .hbm, ⟨36, _⟩ => ⟨S1x2048x16000, .f32⟩
  | .hbm, ⟨37, _⟩ => ⟨S1x2048x16000, .f32⟩
  | .hbm, ⟨38, _⟩ => ⟨S_, .f32⟩
  | .hbm, ⟨39, _⟩ => ⟨S1x2048, .f32⟩
  | .hbm, ⟨40, _⟩ => ⟨S_, .f32⟩
  | .hbm, ⟨41, _⟩ => ⟨S1x2048, .f32⟩
  | .hbm, ⟨42, _⟩ => ⟨S1x2048, .f32⟩
  | .hbm, ⟨43, _⟩ => ⟨S1x2048x1, .f32⟩
  | .hbm, ⟨44, _⟩ => ⟨S1x2048x16000, .f32⟩
  | .hbm, ⟨45, _⟩ => ⟨S1x2048x16000, .f32⟩
  | .hbm, ⟨46, _⟩ => ⟨S1x2048x16000, .f32⟩
  | .hbm, ⟨47, _⟩ => ⟨S_, .f32⟩
  | .hbm, ⟨48, _⟩ => ⟨S1x2048, .f32⟩
  | .hbm, ⟨49, _⟩ => ⟨S1x2048x1, .f32⟩
  | .hbm, ⟨50, _⟩ => ⟨S1x2048x16000, .f32⟩
  | .hbm, ⟨51, _⟩ => ⟨S1x2048x16000, .f32⟩
  | .hbm, ⟨52, _⟩ => ⟨S1x2048x1, .f32⟩
  | .hbm, ⟨53, _⟩ => ⟨S1x2048x16000, .f32⟩
  | .hbm, ⟨54, _⟩ => ⟨S1x2048x16000, .f32⟩
  | .hbm, ⟨55, _⟩ => ⟨S1x2048x20000, .f32⟩
  | .hbm, ⟨56, _⟩ => ⟨S1x2048x48, .f32⟩
  | .hbm, ⟨57, _⟩ => ⟨S1x1x48, .f32⟩
  | .hbm, ⟨58, _⟩ => ⟨S1x2048x48, .f32⟩
  | .hbm, ⟨59, _⟩ => ⟨S1x2048x48, .f32⟩
  | .hbm, ⟨60, _⟩ => ⟨S1x2048x80000, .f32⟩
  | .hbm, ⟨61, _⟩ => ⟨S1x1x80000, .f32⟩
  | .hbm, ⟨62, _⟩ => ⟨S1x2048x80000, .f32⟩
  | .hbm, ⟨63, _⟩ => ⟨S1x2048x80000, .f32⟩
  | .hbm, ⟨64, _⟩ => ⟨S_, .f32⟩
  | .hbm, ⟨65, _⟩ => ⟨S1x2048, .f32⟩
  | .hbm, ⟨66, _⟩ => ⟨S_, .f32⟩
  | .hbm, ⟨67, _⟩ => ⟨S1x2048, .f32⟩
  | .hbm, ⟨68, _⟩ => ⟨S1x2048, .f32⟩
  | .hbm, ⟨69, _⟩ => ⟨S1x2048x1, .f32⟩
  | .hbm, ⟨70, _⟩ => ⟨S1x2048x80000, .f32⟩
  | .hbm, ⟨71, _⟩ => ⟨S1x2048x80000, .f32⟩
  | .hbm, ⟨72, _⟩ => ⟨S1x2048x80000, .f32⟩
  | .hbm, ⟨73, _⟩ => ⟨S_, .f32⟩
  | .hbm, ⟨74, _⟩ => ⟨S1x2048, .f32⟩
  | .hbm, ⟨75, _⟩ => ⟨S1x2048x1, .f32⟩
  | .hbm, ⟨76, _⟩ => ⟨S1x2048x80000, .f32⟩
  | .hbm, ⟨77, _⟩ => ⟨S1x2048x80000, .f32⟩
  | .hbm, ⟨78, _⟩ => ⟨S1x2048x1, .f32⟩
  | .hbm, ⟨79, _⟩ => ⟨S1x2048x80000, .f32⟩
  | .hbm, ⟨80, _⟩ => ⟨S1x2048x80000, .f32⟩
  | .hbm, ⟨81, _⟩ => ⟨S1x2048x100000, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_cst_3 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_cst_6 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩

abbrev nD : Nat := 1
abbrev τ : Topo := Topo.v7x

variable {F : FTy → Type} [FloatOps F]
-- ==== Proof.StatsPayload.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Regions
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Columns `3200 k` to `3200 k + 3199` of the first tail's weights. -/
def w1At (W : Vec F S192x16000 .f32) (k : Fin k0_t1_loop.trips) : Vec F S192x3200 .f32 :=
  View.ld W (Rect.unit (s := S192x16000) (k0_off1 k) S192x3200.size (k0_off1_inb k))
/-- The same columns of the first tail's bias. -/
def b1At (b : Vec F S1x16000 .f32) (k : Fin k0_t1_loop.trips) : Vec F S1x3200 .f32 :=
  View.ld b (Rect.unit (s := S1x16000) (k0_off2 k) S1x3200.size (k0_off2_inb k))
/-- Columns `3200 k` to `3200 k + 3199` of the second tail's weights. -/
def w2At (W : Vec F S48x80000 .f32) (k : Fin k0_t2_loop.trips) : Vec F S48x3200 .f32 :=
  View.ld W (Rect.unit (s := S48x80000) (k0_off3 k) S48x3200.size (k0_off3_inb k))
/-- The same columns of the second tail's bias. -/
def b2At (b : Vec F S1x80000 .f32) (k : Fin k0_t2_loop.trips) : Vec F S1x3200 .f32 :=
  View.ld b (Rect.unit (s := S1x80000) (k0_off4 k) S1x3200.size (k0_off4_inb k))

/-- Running maximum and running sum of the first tail before chunk `k`. -/
def run1 (p : FVec F S192x256 .bf16) (W : Vec F S192x16000 .f32) (b : Vec F S1x16000 .f32) : ℕ → FVec F S256x1 .f32 × FVec F S256x1 .f32
  | 0 => (k0_pay2, k0_pay3)
  | k + 1 => if h : k < k0_t1_loop.trips then
      (k0_pay5 p (run1 p W b k).1 (w1At W ⟨k, h⟩) (b1At b ⟨k, h⟩), k0_pay6 p (run1 p W b k).1 (run1 p W b k).2 (w1At W ⟨k, h⟩) (b1At b ⟨k, h⟩))
    else run1 p W b k
/-- Running maximum and running sum of the second tail before chunk `k`. -/
def run2 (v3 : FVec F S768x256 .bf16) (v38 : Vec F S48x768 .f32) (v42 : Vec F S48x1 .f32) (W : Vec F S48x80000 .f32) (b : Vec F S1x80000 .f32) :
    ℕ → FVec F S256x1 .f32 × FVec F S256x1 .f32
  | 0 => (k0_pay7, k0_pay8)
  | k + 1 => if h : k < k0_t2_loop.trips then
      (k0_pay10 v3 v38 v42 (run2 v3 v38 v42 W b k).1 (w2At W ⟨k, h⟩) (b2At b ⟨k, h⟩),
        k0_pay11 v3 v38 v42 (run2 v3 v38 v42 W b k).1 (run2 v3 v38 v42 W b k).2 (w2At W ⟨k, h⟩) (b2At b ⟨k, h⟩))
    else run2 v3 v38 v42 W b k

/-- The transposed head softmax of one block of rows. -/
def out0_11 (x0 : Vec F S1x256x768 .f32) (x1 : Vec F S4002x768 .f32) (x2 : Vec F S4002x1 .f32) : Vec F S4002x256 .f32 := k0_pay14 x0 x1 x2
/-- The first tail's projection of one block of rows. -/
def out0_12 (x0 : Vec F S1x256x768 .f32) (x3 : Vec F S192x768 .f32) (x4 : Vec F S192x1 .f32) : Vec F S192x256 .bf16 := k0_pay17 x0 x3 x4
/-- The second tail's projection of one block of rows. -/
def out0_13 (x0 : Vec F S1x256x768 .f32) (x7 : Vec F S48x768 .f32) (x8 : Vec F S48x1 .f32) : Vec F S48x256 .bf16 := k0_pay1 (k0_pay13 x0) x7 x8
/-- The statistics of one block of rows: each tail's maximum and its gate over its sum. -/
def out0_14 (x0 : Vec F S1x256x768 .f32) (x1 : Vec F S4002x768 .f32) (x2 : Vec F S4002x1 .f32) (x3 : Vec F S192x768 .f32) (x4 : Vec F S192x1 .f32) (x5 : Vec F S192x16000 .f32) (x6 : Vec F S1x16000 .f32) (x7 : Vec F S48x768 .f32) (x8 : Vec F S48x1 .f32) (x9 : Vec F S48x80000 .f32) (x10 : Vec F S1x80000 .f32) : Vec F S8x256 .f32 :=
  k0_pay12 (k0_pay15 x0 x1 x2) (k0_pay16 x0 x1 x2)
    (run1 (k0_pay17 x0 x3 x4) x5 x6 k0_t1_loop.trips).1 (run1 (k0_pay17 x0 x3 x4) x5 x6 k0_t1_loop.trips).2
    (run2 (k0_pay13 x0) x7 x8 x9 x10 k0_t2_loop.trips).1 (run2 (k0_pay13 x0) x7 x8 x9 x10 k0_t2_loop.trips).2

theorem hz2 : (![0, 0] : Fin 2 → Nat) = fun _ => 0 := funext fun a => by fin_cases a <;> rfl
theorem hz3 : (![0, 0, 0] : Fin 3 → Nat) = fun _ => 0 := funext fun a => by fin_cases a <;> rfl

/-- What a view reads after one store through the whole of it is the stored value. -/
theorem read_whole_write {κ : Kind} {sp : Space} {S : Shape} {e : EltTy} (v : View sig κ sp S e) (f : v.ty.Contents (Elt F)) {off : Fin S.rank → Nat} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton.mpr rfl, ?_⟩), View.canon_unit_zero h]
  subst h
  show y ∈ (Rect.unit (fun _ => 0) S.size inb).set
  exact (Rect.mem_set_unit (inb := inb)).mpr fun a => ⟨Nat.zero_le _, by simpa using (y a).isLt⟩

/-- One chunk of the first tail, as the run finds it. -/
theorem trip1_eq (c : Dev nD) (i : grid0.Coords) (arg1 : Memref sig .tc .vmem S1x256x768 .f32) (harg1 : arg1.IsWhole) (arg2 : Memref sig .tc .vmem S4002x768 .f32) (harg2 : arg2.IsWhole) (arg3 : Memref sig .tc .vmem S4002x1 .f32) (harg3 : arg3.IsWhole) (arg4 : Memref sig .tc .vmem S192x768 .f32) (harg4 : arg4.IsWhole) (arg5 : Memref sig .tc .vmem S192x1 .f32) (harg5 : arg5.IsWhole) (arg6 : Memref sig .tc .vmem S192x16000 .f32) (harg6 : arg6.IsWhole) (arg7 : Memref sig .tc .vmem S1x16000 .f32) (harg7 : arg7.IsWhole) (arg8 : Memref sig .tc .vmem S48x768 .f32) (harg8 : arg8.IsWhole) (arg9 : Memref sig .tc .vmem S48x1 .f32) (harg9 : arg9.IsWhole) (arg10 : Memref sig .tc .vmem S48x80000 .f32) (harg10 : arg10.IsWhole) (arg11 : Memref sig .tc .vmem S1x80000 .f32) (harg11 : arg11.IsWhole) (arg12 : Memref sig .tc .vmem S4002x256 .f32) (harg12 : arg12.IsWhole) (arg13 : Memref sig .tc .vmem S192x256 .bf16) (harg13 : arg13.IsWhole) (arg14 : Memref sig .tc .vmem S48x256 .bf16) (harg14 : arg14.IsWhole) (arg15 : Memref sig .tc .vmem S8x256 .f32) (harg15 : arg15.IsWhole) (p : FVec F S192x256 .bf16) (W : Vec F S192x16000 .f32) (b : Vec F S1x16000 .f32) (k : Fin k0_t1_loop.trips) (acc : FVec F S256x1 .f32 × FVec F S256x1 .f32) :
    (trip_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 p (harg6.unread W) (harg7.unread b) k).1 acc
      = (k0_pay5 p acc.1 (w1At W k) (b1At b k), k0_pay6 p acc.1 acc.2 (w1At W k) (b1At b k)) := by
  unfold trip_k0_t1
  dsimp only
  simp only [View.readAt_eq_ld, harg6.read_unread, harg7.read_unread]
  rfl

/-- One chunk of the second tail, as the run finds it. -/
theorem trip2_eq (c : Dev nD) (i : grid0.Coords) (arg1 : Memref sig .tc .vmem S1x256x768 .f32) (harg1 : arg1.IsWhole) (arg2 : Memref sig .tc .vmem S4002x768 .f32) (harg2 : arg2.IsWhole) (arg3 : Memref sig .tc .vmem S4002x1 .f32) (harg3 : arg3.IsWhole) (arg4 : Memref sig .tc .vmem S192x768 .f32) (harg4 : arg4.IsWhole) (arg5 : Memref sig .tc .vmem S192x1 .f32) (harg5 : arg5.IsWhole) (arg6 : Memref sig .tc .vmem S192x16000 .f32) (harg6 : arg6.IsWhole) (arg7 : Memref sig .tc .vmem S1x16000 .f32) (harg7 : arg7.IsWhole) (arg8 : Memref sig .tc .vmem S48x768 .f32) (harg8 : arg8.IsWhole) (arg9 : Memref sig .tc .vmem S48x1 .f32) (harg9 : arg9.IsWhole) (arg10 : Memref sig .tc .vmem S48x80000 .f32) (harg10 : arg10.IsWhole) (arg11 : Memref sig .tc .vmem S1x80000 .f32) (harg11 : arg11.IsWhole) (arg12 : Memref sig .tc .vmem S4002x256 .f32) (harg12 : arg12.IsWhole) (arg13 : Memref sig .tc .vmem S192x256 .bf16) (harg13 : arg13.IsWhole) (arg14 : Memref sig .tc .vmem S48x256 .bf16) (harg14 : arg14.IsWhole) (arg15 : Memref sig .tc .vmem S8x256 .f32) (harg15 : arg15.IsWhole) (v3 : FVec F S768x256 .bf16) (v38 : Vec F S48x768 .f32) (v42 : Vec F S48x1 .f32) (W : Vec F S48x80000 .f32) (b : Vec F S1x80000 .f32) (k : Fin k0_t2_loop.trips) (acc : FVec F S256x1 .f32 × FVec F S256x1 .f32) :
    (trip_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v38 v42 (harg10.unread W) (harg11.unread b) k).1 acc
      = (k0_pay10 v3 v38 v42 acc.1 (w2At W k) (b2At b k), k0_pay11 v3 v38 v42 acc.1 acc.2 (w2At W k) (b2At b k)) := by
  unfold trip_k0_t2
  dsimp only
  simp only [View.readAt_eq_ld, harg10.read_unread, harg11.read_unread]
  rfl

/-- The loop over the first tail's chunks carries the running maximum and sum. -/
theorem st1_eq (c : Dev nD) (i : grid0.Coords) (arg1 : Memref sig .tc .vmem S1x256x768 .f32) (harg1 : arg1.IsWhole) (arg2 : Memref sig .tc .vmem S4002x768 .f32) (harg2 : arg2.IsWhole) (arg3 : Memref sig .tc .vmem S4002x1 .f32) (harg3 : arg3.IsWhole) (arg4 : Memref sig .tc .vmem S192x768 .f32) (harg4 : arg4.IsWhole) (arg5 : Memref sig .tc .vmem S192x1 .f32) (harg5 : arg5.IsWhole) (arg6 : Memref sig .tc .vmem S192x16000 .f32) (harg6 : arg6.IsWhole) (arg7 : Memref sig .tc .vmem S1x16000 .f32) (harg7 : arg7.IsWhole) (arg8 : Memref sig .tc .vmem S48x768 .f32) (harg8 : arg8.IsWhole) (arg9 : Memref sig .tc .vmem S48x1 .f32) (harg9 : arg9.IsWhole) (arg10 : Memref sig .tc .vmem S48x80000 .f32) (harg10 : arg10.IsWhole) (arg11 : Memref sig .tc .vmem S1x80000 .f32) (harg11 : arg11.IsWhole) (arg12 : Memref sig .tc .vmem S4002x256 .f32) (harg12 : arg12.IsWhole) (arg13 : Memref sig .tc .vmem S192x256 .bf16) (harg13 : arg13.IsWhole) (arg14 : Memref sig .tc .vmem S48x256 .bf16) (harg14 : arg14.IsWhole) (arg15 : Memref sig .tc .vmem S8x256 .f32) (harg15 : arg15.IsWhole) (p : FVec F S192x256 .bf16) (W : Vec F S192x16000 .f32) (b : Vec F S1x16000 .f32) (k : ℕ) (hk : k ≤ k0_t1_loop.trips) :
    st_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 p (harg6.unread W) (harg7.unread b) (k0_pay2, k0_pay3) k = run1 p W b k := by
  induction k with
  | zero => rfl
  | succ k ih =>
    have h : k < k0_t1_loop.trips := hk
    rw [st_k0_t1_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 p (harg6.unread W) (harg7.unread b) (k0_pay2, k0_pay3) ⟨k, h⟩]
    unfold tripR_k0_t1
    rw [trip1_eq, ih (Nat.le_of_lt h)]
    simp only [run1, dif_pos h]

/-- The loop over the second tail's chunks carries the running maximum and sum. -/
theorem st2_eq (c : Dev nD) (i : grid0.Coords) (arg1 : Memref sig .tc .vmem S1x256x768 .f32) (harg1 : arg1.IsWhole) (arg2 : Memref sig .tc .vmem S4002x768 .f32) (harg2 : arg2.IsWhole) (arg3 : Memref sig .tc .vmem S4002x1 .f32) (harg3 : arg3.IsWhole) (arg4 : Memref sig .tc .vmem S192x768 .f32) (harg4 : arg4.IsWhole) (arg5 : Memref sig .tc .vmem S192x1 .f32) (harg5 : arg5.IsWhole) (arg6 : Memref sig .tc .vmem S192x16000 .f32) (harg6 : arg6.IsWhole) (arg7 : Memref sig .tc .vmem S1x16000 .f32) (harg7 : arg7.IsWhole) (arg8 : Memref sig .tc .vmem S48x768 .f32) (harg8 : arg8.IsWhole) (arg9 : Memref sig .tc .vmem S48x1 .f32) (harg9 : arg9.IsWhole) (arg10 : Memref sig .tc .vmem S48x80000 .f32) (harg10 : arg10.IsWhole) (arg11 : Memref sig .tc .vmem S1x80000 .f32) (harg11 : arg11.IsWhole) (arg12 : Memref sig .tc .vmem S4002x256 .f32) (harg12 : arg12.IsWhole) (arg13 : Memref sig .tc .vmem S192x256 .bf16) (harg13 : arg13.IsWhole) (arg14 : Memref sig .tc .vmem S48x256 .bf16) (harg14 : arg14.IsWhole) (arg15 : Memref sig .tc .vmem S8x256 .f32) (harg15 : arg15.IsWhole) (v3 : FVec F S768x256 .bf16) (v38 : Vec F S48x768 .f32) (v42 : Vec F S48x1 .f32) (W : Vec F S48x80000 .f32) (b : Vec F S1x80000 .f32) (k : ℕ) (hk : k ≤ k0_t2_loop.trips) :
    st_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v38 v42 (harg10.unread W) (harg11.unread b) (k0_pay7, k0_pay8) k = run2 v3 v38 v42 W b k := by
  induction k with
  | zero => rfl
  | succ k ih =>
    have h : k < k0_t2_loop.trips := hk
    rw [st_k0_t2_succ (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 v3 v38 v42 (harg10.unread W) (harg11.unread b) (k0_pay7, k0_pay8) ⟨k, h⟩]
    unfold tripR_k0_t2
    rw [trip2_eq, ih (Nat.le_of_lt h)]
    simp only [run2, dif_pos h]

end Cert.KernelIdeal.Gen

end
-- ==== Proof.StatsRun.lean ====
module

public import proofs.«01_k».proof.Proof.StatsPayload

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the run's proof term is large: checking it walks past the default budget
set_option maxHeartbeats 1600000 in
/-- The first kernel's body on whole staging buffers: the inputs are kept, each output ends at its named contents. -/
theorem statsRun (c : Dev nD) (i : grid0.Coords) (arg1 : Memref sig .tc .vmem S1x256x768 .f32) (harg1 : arg1.IsWhole) (arg2 : Memref sig .tc .vmem S4002x768 .f32) (harg2 : arg2.IsWhole) (arg3 : Memref sig .tc .vmem S4002x1 .f32) (harg3 : arg3.IsWhole) (arg4 : Memref sig .tc .vmem S192x768 .f32) (harg4 : arg4.IsWhole) (arg5 : Memref sig .tc .vmem S192x1 .f32) (harg5 : arg5.IsWhole) (arg6 : Memref sig .tc .vmem S192x16000 .f32) (harg6 : arg6.IsWhole) (arg7 : Memref sig .tc .vmem S1x16000 .f32) (harg7 : arg7.IsWhole) (arg8 : Memref sig .tc .vmem S48x768 .f32) (harg8 : arg8.IsWhole) (arg9 : Memref sig .tc .vmem S48x1 .f32) (harg9 : arg9.IsWhole) (arg10 : Memref sig .tc .vmem S48x80000 .f32) (harg10 : arg10.IsWhole) (arg11 : Memref sig .tc .vmem S1x80000 .f32) (harg11 : arg11.IsWhole) (arg12 : Memref sig .tc .vmem S4002x256 .f32) (harg12 : arg12.IsWhole) (arg13 : Memref sig .tc .vmem S192x256 .bf16) (harg13 : arg13.IsWhole) (arg14 : Memref sig .tc .vmem S48x256 .bf16) (harg14 : arg14.IsWhole) (arg15 : Memref sig .tc .vmem S8x256 .f32) (harg15 : arg15.IsWhole)
    (x0 : Vec F S1x256x768 .f32) (x1 : Vec F S4002x768 .f32) (x2 : Vec F S4002x1 .f32) (x3 : Vec F S192x768 .f32) (x4 : Vec F S192x1 .f32) (x5 : Vec F S192x16000 .f32) (x6 : Vec F S1x16000 .f32) (x7 : Vec F S48x768 .f32) (x8 : Vec F S48x1 .f32) (x9 : Vec F S48x80000 .f32) (x10 : Vec F S1x80000 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2) ∗ owns (c : Thread nD τ) arg13 fullShare (out0_12 x0 x3 x4) ∗ owns (c : Thread nD τ) arg14 fullShare (out0_13 x0 x7 x8) ∗ owns (c : Thread nD τ) arg15 fullShare (out0_14 x0 x1 x2 x3 x4 x5 x6 x7 x8 x9 x10)) -∗ K ⟨⟩))
          ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
    intro E K
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; swap; · iexact H11
      ipureintro
      sl_unfold_words
      refine (read_whole_write (S := S4002x256) arg12.view _ hz2 _ _).trans ?_
      simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x256x768) hz3, View.ld_unit_zero (S := S4002x768) hz2, View.ld_unit_zero (S := S4002x1) hz2, View.ld_unit_zero (S := S192x768) hz2, View.ld_unit_zero (S := S192x1) hz2, View.ld_unit_zero (S := S48x768) hz2, View.ld_unit_zero (S := S48x1) hz2]
      rfl
    isplitl [H12]
    · iexists _; isplitr; swap; · iexact H12
      ipureintro
      sl_unfold_words
      refine (read_whole_write (S := S192x256) arg13.view _ hz2 _ _).trans ?_
      simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x256x768) hz3, View.ld_unit_zero (S := S4002x768) hz2, View.ld_unit_zero (S := S4002x1) hz2, View.ld_unit_zero (S := S192x768) hz2, View.ld_unit_zero (S := S192x1) hz2, View.ld_unit_zero (S := S48x768) hz2, View.ld_unit_zero (S := S48x1) hz2]
      rfl
    isplitl [H13]
    · iexists _; isplitr; swap; · iexact H13
      ipureintro
      sl_unfold_words
      refine (read_whole_write (S := S48x256) arg14.view _ hz2 _ _).trans ?_
      simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x256x768) hz3, View.ld_unit_zero (S := S4002x768) hz2, View.ld_unit_zero (S := S4002x1) hz2, View.ld_unit_zero (S := S192x768) hz2, View.ld_unit_zero (S := S192x1) hz2, View.ld_unit_zero (S := S48x768) hz2, View.ld_unit_zero (S := S48x1) hz2]
      rfl
    iexists _; isplitr; swap; · iexact H14
    ipureintro
    sl_unfold_words
    refine (read_whole_write (S := S8x256) arg15.view _ hz2 _ _).trans ?_
    simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S1x256x768) hz3, View.ld_unit_zero (S := S4002x768) hz2, View.ld_unit_zero (S := S4002x1) hz2, View.ld_unit_zero (S := S192x768) hz2, View.ld_unit_zero (S := S192x1) hz2, View.ld_unit_zero (S := S48x768) hz2, View.ld_unit_zero (S := S48x1) hz2]
    rw [st1_eq (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ (le_refl k0_t1_loop.trips), st2_eq (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 _ _ _ _ _ _ (le_refl k0_t2_loop.trips)]
    rfl

end Cert.KernelIdeal.Gen

end
-- ==== Proof.Stats.lean ====
module

public import proofs.«01_k».proof.Proof.StatsRun

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the first region finds it. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- What the first region's pipeline does: inputs stay, outputs end at their named contents, nothing owed. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => iblk0 W c 3 t
    | ⟨4, _⟩ => iblk0 W c 4 t
    | ⟨5, _⟩ => iblk0 W c 5 t
    | ⟨6, _⟩ => iblk0 W c 6 t
    | ⟨7, _⟩ => iblk0 W c 7 t
    | ⟨8, _⟩ => iblk0 W c 8 t
    | ⟨9, _⟩ => iblk0 W c 9 t
    | ⟨10, _⟩ => iblk0 W c 10 t
    | ⟨11, _⟩ => out0_11 (iblk0 W c 0 t) (iblk0 W c 1 t) (iblk0 W c 2 t)
    | ⟨12, _⟩ => out0_12 (iblk0 W c 0 t) (iblk0 W c 3 t) (iblk0 W c 4 t)
    | ⟨13, _⟩ => out0_13 (iblk0 W c 0 t) (iblk0 W c 7 t) (iblk0 W c 8 t)
    | ⟨14, _⟩ => out0_14 (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t)
  Φ _ := Pipeline.ΦA spec0 c
  q _ := fullShare
  owed _ := 0

theorem A0_eq (c : Dev nD) (w : Fin cfg0.W) : (dat0 W c).A w = W c (Proc.devRef .tc (Pipeline.arrRef spec0 w)) := by dsimp only [dat0]
theorem after0_0 (c : Dev nD) (t : Fin cfg0.N) : (dat0 W c).after 0 t = iblk0 W c 0 t := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem after0_1 (c : Dev nD) (t : Fin cfg0.N) : (dat0 W c).after 1 t = iblk0 W c 1 t := by dsimp only [dat0]
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem after0_2 (c : Dev nD) (t : Fin cfg0.N) : (dat0 W c).after 2 t = iblk0 W c 2 t := by dsimp only [dat0]
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)
theorem after0_3 (c : Dev nD) (t : Fin cfg0.N) : (dat0 W c).after 3 t = iblk0 W c 3 t := by dsimp only [dat0]
theorem before0_3 (c : Dev nD) (t : Fin cfg0.N) (d) : (dat0 W c).before 3 t d = iblk0 W c 3 t :=
  ((dat0 W c).before_in_eq_fetched 3 rfl (fun _ => rfl) (fun _ _ _ => rfl) (fun t => by rw [after0_3]; unfold Dat.blockOf iblk0; rw [A0_eq]; try rfl) t d).trans
    (by unfold Dat.fetched Dat.blockOf iblk0; rw [A0_eq]; try rfl)
theorem after0_4 (c : Dev nD) (t : Fin cfg0.N) : (dat0 W c).after 4 t = iblk0 W c 4 t := by dsimp only [dat0]
theorem before0_4 (c : Dev nD) (t : Fin cfg0.N) (d) : (dat0 W c).before 4 t d = iblk0 W c 4 t :=
  ((dat0 W c).before_in_eq_fetched 4 rfl (fun _ => rfl) (fun _ _ _ => rfl) (fun t => by rw [after0_4]; unfold Dat.blockOf iblk0; rw [A0_eq]; try rfl) t d).trans
    (by unfold Dat.fetched Dat.blockOf iblk0; rw [A0_eq]; try rfl)
theorem after0_5 (c : Dev nD) (t : Fin cfg0.N) : (dat0 W c).after 5 t = iblk0 W c 5 t := by dsimp only [dat0]
theorem before0_5 (c : Dev nD) (t : Fin cfg0.N) (d) : (dat0 W c).before 5 t d = iblk0 W c 5 t :=
  ((dat0 W c).before_in_eq_fetched 5 rfl (fun _ => rfl) (fun _ _ _ => rfl) (fun t => by rw [after0_5]; unfold Dat.blockOf iblk0; rw [A0_eq]; try rfl) t d).trans
    (by unfold Dat.fetched Dat.blockOf iblk0; rw [A0_eq]; try rfl)
theorem after0_6 (c : Dev nD) (t : Fin cfg0.N) : (dat0 W c).after 6 t = iblk0 W c 6 t := by dsimp only [dat0]
theorem before0_6 (c : Dev nD) (t : Fin cfg0.N) (d) : (dat0 W c).before 6 t d = iblk0 W c 6 t :=
  ((dat0 W c).before_in_eq_fetched 6 rfl (fun _ => rfl) (fun _ _ _ => rfl) (fun t => by rw [after0_6]; unfold Dat.blockOf iblk0; rw [A0_eq]; try rfl) t d).trans
    (by unfold Dat.fetched Dat.blockOf iblk0; rw [A0_eq]; try rfl)
theorem after0_7 (c : Dev nD) (t : Fin cfg0.N) : (dat0 W c).after 7 t = iblk0 W c 7 t := by dsimp only [dat0]
theorem before0_7 (c : Dev nD) (t : Fin cfg0.N) (d) : (dat0 W c).before 7 t d = iblk0 W c 7 t :=
  ((dat0 W c).before_in_eq_fetched 7 rfl (fun _ => rfl) (fun _ _ _ => rfl) (fun t => by rw [after0_7]; unfold Dat.blockOf iblk0; rw [A0_eq]; try rfl) t d).trans
    (by unfold Dat.fetched Dat.blockOf iblk0; rw [A0_eq]; try rfl)
theorem after0_8 (c : Dev nD) (t : Fin cfg0.N) : (dat0 W c).after 8 t = iblk0 W c 8 t := by dsimp only [dat0]
theorem before0_8 (c : Dev nD) (t : Fin cfg0.N) (d) : (dat0 W c).before 8 t d = iblk0 W c 8 t :=
  ((dat0 W c).before_in_eq_fetched 8 rfl (fun _ => rfl) (fun _ _ _ => rfl) (fun t => by rw [after0_8]; unfold Dat.blockOf iblk0; rw [A0_eq]; try rfl) t d).trans
    (by unfold Dat.fetched Dat.blockOf iblk0; rw [A0_eq]; try rfl)
theorem after0_9 (c : Dev nD) (t : Fin cfg0.N) : (dat0 W c).after 9 t = iblk0 W c 9 t := by dsimp only [dat0]
theorem before0_9 (c : Dev nD) (t : Fin cfg0.N) (d) : (dat0 W c).before 9 t d = iblk0 W c 9 t :=
  ((dat0 W c).before_in_eq_fetched 9 rfl (fun _ => rfl) (fun _ _ _ => rfl) (fun t => by rw [after0_9]; unfold Dat.blockOf iblk0; rw [A0_eq]; try rfl) t d).trans
    (by unfold Dat.fetched Dat.blockOf iblk0; rw [A0_eq]; try rfl)
theorem after0_10 (c : Dev nD) (t : Fin cfg0.N) : (dat0 W c).after 10 t = iblk0 W c 10 t := by dsimp only [dat0]
theorem before0_10 (c : Dev nD) (t : Fin cfg0.N) (d) : (dat0 W c).before 10 t d = iblk0 W c 10 t :=
  ((dat0 W c).before_in_eq_fetched 10 rfl (fun _ => rfl) (fun _ _ _ => rfl) (fun t => by rw [after0_10]; unfold Dat.blockOf iblk0; rw [A0_eq]; try rfl) t d).trans
    (by unfold Dat.fetched Dat.blockOf iblk0; rw [A0_eq]; try rfl)
theorem after0_11 (c : Dev nD) (t : Fin cfg0.N) : (dat0 W c).after 11 t = out0_11 (iblk0 W c 0 t) (iblk0 W c 1 t) (iblk0 W c 2 t) := by dsimp only [dat0]
theorem after0_12 (c : Dev nD) (t : Fin cfg0.N) : (dat0 W c).after 12 t = out0_12 (iblk0 W c 0 t) (iblk0 W c 3 t) (iblk0 W c 4 t) := by dsimp only [dat0]
theorem after0_13 (c : Dev nD) (t : Fin cfg0.N) : (dat0 W c).after 13 t = out0_13 (iblk0 W c 0 t) (iblk0 W c 7 t) (iblk0 W c 8 t) := by dsimp only [dat0]
theorem after0_14 (c : Dev nD) (t : Fin cfg0.N) : (dat0 W c).after 14 t = out0_14 (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t) := by dsimp only [dat0]

abbrev ms0_0 (t : Fin cfg0.N) : Memref sig .tc .vmem S1x256x768 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4002x768 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4002x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S192x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S192x16000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x16000 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S48x768 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S48x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x80000 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x80000 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S4002x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S192x256 .bf16 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S48x256 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S8x256 .f32 := win0_14.stage (cfg0.slots t 14)
abbrev hs0_14 (t : Fin cfg0.N) : (ms0_14 t).IsWhole := hstage0_14 ((cfg0.slots t 14).cast nbuf0_14)

/-- What the body is called with at point `t`, -/
def bodyPre0 (c : Dev nD) (t : Fin cfg0.N) : sProp 𝕄 :=
  iprop((dat0 W c).Φ t.castSucc ∗ (dat0 W c).owesAt () t.castSucc ∗ (∃ d, owns (c : Thread nD τ) (ms0_0 t) fullShare ((dat0 W c).before 0 t d)) ∗ (∃ d, owns (c : Thread nD τ) (ms0_1 t) fullShare ((dat0 W c).before 1 t d)) ∗ (∃ d, owns (c : Thread nD τ) (ms0_2 t) fullShare ((dat0 W c).before 2 t d)) ∗ (∃ d, owns (c : Thread nD τ) (ms0_3 t) fullShare ((dat0 W c).before 3 t d)) ∗ (∃ d, owns (c : Thread nD τ) (ms0_4 t) fullShare ((dat0 W c).before 4 t d)) ∗ (∃ d, owns (c : Thread nD τ) (ms0_5 t) fullShare ((dat0 W c).before 5 t d)) ∗ (∃ d, owns (c : Thread nD τ) (ms0_6 t) fullShare ((dat0 W c).before 6 t d)) ∗ (∃ d, owns (c : Thread nD τ) (ms0_7 t) fullShare ((dat0 W c).before 7 t d)) ∗ (∃ d, owns (c : Thread nD τ) (ms0_8 t) fullShare ((dat0 W c).before 8 t d)) ∗ (∃ d, owns (c : Thread nD τ) (ms0_9 t) fullShare ((dat0 W c).before 9 t d)) ∗ (∃ d, owns (c : Thread nD τ) (ms0_10 t) fullShare ((dat0 W c).before 10 t d)) ∗ (∃ d, owns (c : Thread nD τ) (ms0_11 t) fullShare ((dat0 W c).before 11 t d)) ∗ (∃ d, owns (c : Thread nD τ) (ms0_12 t) fullShare ((dat0 W c).before 12 t d)) ∗ (∃ d, owns (c : Thread nD τ) (ms0_13 t) fullShare ((dat0 W c).before 13 t d)) ∗ (∃ d, owns (c : Thread nD τ) (ms0_14 t) fullShare ((dat0 W c).before 14 t d)))

/-- and what it returns. -/
def bodyPost0 (c : Dev nD) (t : Fin cfg0.N) : sProp 𝕄 :=
  iprop((dat0 W c).Φ t.succ ∗ (dat0 W c).owesAt () t.succ ∗ owns (c : Thread nD τ) (ms0_0 t) fullShare ((dat0 W c).after 0 t) ∗ owns (c : Thread nD τ) (ms0_1 t) fullShare ((dat0 W c).after 1 t) ∗ owns (c : Thread nD τ) (ms0_2 t) fullShare ((dat0 W c).after 2 t) ∗ owns (c : Thread nD τ) (ms0_3 t) fullShare ((dat0 W c).after 3 t) ∗ owns (c : Thread nD τ) (ms0_4 t) fullShare ((dat0 W c).after 4 t) ∗ owns (c : Thread nD τ) (ms0_5 t) fullShare ((dat0 W c).after 5 t) ∗ owns (c : Thread nD τ) (ms0_6 t) fullShare ((dat0 W c).after 6 t) ∗ owns (c : Thread nD τ) (ms0_7 t) fullShare ((dat0 W c).after 7 t) ∗ owns (c : Thread nD τ) (ms0_8 t) fullShare ((dat0 W c).after 8 t) ∗ owns (c : Thread nD τ) (ms0_9 t) fullShare ((dat0 W c).after 9 t) ∗ owns (c : Thread nD τ) (ms0_10 t) fullShare ((dat0 W c).after 10 t) ∗ owns (c : Thread nD τ) (ms0_11 t) fullShare ((dat0 W c).after 11 t) ∗ owns (c : Thread nD τ) (ms0_12 t) fullShare ((dat0 W c).after 12 t) ∗ owns (c : Thread nD τ) (ms0_13 t) fullShare ((dat0 W c).after 13 t) ∗ owns (c : Thread nD τ) (ms0_14 t) fullShare ((dat0 W c).after 14 t))

set_option maxHeartbeats 1600000 in
/-- The body at any point of the first region. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4, before0_5, before0_6, before0_7, before0_8, before0_9, before0_10]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply ((statsRun c (grid0.coords t) _ _ _ _ _ _ _ _ _ _ _ _ _ _ _ _ _ _ _ _ _ _ _ _ _ _ _ _ _ _ (iblk0 W c 0 t) (iblk0 W c 1 t) (iblk0 W c 2 t) (iblk0 W c 3 t) (iblk0 W c 4 t) (iblk0 W c 5 t) (iblk0 W c 6 t) (iblk0 W c 7 t) (iblk0 W c 8 t) (iblk0 W c 9 t) (iblk0 W c 10 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The body obligation of the first region, at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

end Cert.KernelIdeal.Gen

end
-- ==== Proof.WritePayload.lean ====
module

public import proofs.«01_k».proof.Proof.StatsPayload

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The last 416 rows of a block of the first tail's weights. -/
def hi1 (W : Vec F S512x192 .f32) : Vec F S416x192 .f32 := View.ld W (Rect.unit (s := S512x192) ![96, 0] S416x192.size inb_S512x192_S416x192_96_0)
/-- The first 96 rows of a block of the first tail's weights. -/
def lo1 (W : Vec F S512x192 .f32) : Vec F S96x192 .f32 := View.ld W (Rect.unit (s := S512x192) ![0, 0] S96x192.size inb_S512x192_S96x192_0_0)
/-- The last 416 entries of a block of the first tail's bias. -/
def hib1 (W : Vec F S512x1 .f32) : Vec F S416x1 .f32 := View.ld W (Rect.unit (s := S512x1) ![96, 0] S416x1.size inb_S512x1_S416x1_96_0)
/-- The first 96 entries of a block of the first tail's bias. -/
def lob1 (W : Vec F S512x1 .f32) : Vec F S96x1 .f32 := View.ld W (Rect.unit (s := S512x1) ![0, 0] S96x1.size inb_S512x1_S96x1_0_0)
/-- The last 32 rows of a block of the second tail's weights. -/
def hi2 (W : Vec F S512x48 .f32) : Vec F S32x48 .f32 := View.ld W (Rect.unit (s := S512x48) ![480, 0] S32x48.size inb_S512x48_S32x48_480_0)
/-- The first 480 rows of a block of the second tail's weights. -/
def lo2 (W : Vec F S512x48 .f32) : Vec F S480x48 .f32 := View.ld W (Rect.unit (s := S512x48) ![0, 0] S480x48.size inb_S512x48_S480x48_0_0)
/-- The last 32 entries of a block of the second tail's bias. -/
def hib2 (W : Vec F S512x1 .f32) : Vec F S32x1 .f32 := View.ld W (Rect.unit (s := S512x1) ![480, 0] S32x1.size inb_S512x1_S32x1_480_0)
/-- The first 480 entries of a block of the second tail's bias. -/
def lob2 (W : Vec F S512x1 .f32) : Vec F S480x1 .f32 := View.ld W (Rect.unit (s := S512x1) ![0, 0] S480x1.size inb_S512x1_S480x1_0_0)
/-- Row 0 of the statistics. -/
def strow0 (W : Vec F S8x2048 .f32) : Vec F S1x2048 .f32 := View.ld W (Rect.unit (s := S8x2048) ![0, 0] S1x2048.size inb_S8x2048_S1x2048_0_0)
/-- Row 1 of the statistics. -/
def strow1 (W : Vec F S8x2048 .f32) : Vec F S1x2048 .f32 := View.ld W (Rect.unit (s := S8x2048) ![1, 0] S1x2048.size inb_S8x2048_S1x2048_1_0)
/-- Row 2 of the statistics. -/
def strow2 (W : Vec F S8x2048 .f32) : Vec F S1x2048 .f32 := View.ld W (Rect.unit (s := S8x2048) ![2, 0] S1x2048.size inb_S8x2048_S1x2048_2_0)
/-- Row 3 of the statistics. -/
def strow3 (W : Vec F S8x2048 .f32) : Vec F S1x2048 .f32 := View.ld W (Rect.unit (s := S8x2048) ![3, 0] S1x2048.size inb_S8x2048_S1x2048_3_0)

/-- What the second kernel stores at a grid point, of the blocks its staging buffers hold. -/
def out1 (i : grid1.Coords) (x0 : Vec F S512x2048 .f32) (x1 : Vec F S192x2048 .bf16) (x2 : Vec F S48x2048 .bf16) (x3 : Vec F S8x2048 .f32) (x4 : Vec F S512x192 .f32) (x5 : Vec F S512x192 .f32) (x6 : Vec F S512x1 .f32) (x7 : Vec F S512x1 .f32) (x8 : Vec F S512x48 .f32) (x9 : Vec F S512x48 .f32) (x10 : Vec F S512x1 .f32) (x11 : Vec F S512x1 .f32) : Vec F S1x512x2048 .f32 :=
  if (i 1).val < 7 then k1_pay1 x0
  else if (i 1).val = 7 then k1_pay5 (BitVec.ofNat 32 (i 1).val) x0 (hi1 x4) (lo1 x5) (hib1 x6) (lob1 x7) x1 (strow0 x3) (strow1 x3)
  else if (i 1).val < 39 then k1_pay2 (hi1 x4) (lo1 x5) (hib1 x6) (lob1 x7) x1 (strow0 x3) (strow1 x3)
  else if (i 1).val = 39 then k1_pay3 (k1_pay6 (BitVec.ofNat 32 (i 1).val)) (k1_pay7 (hi1 x4) (lo1 x5) (hib1 x6) (lob1 x7) x1 (strow0 x3) (strow1 x3)) (k1_pay8 (hi2 x8) (lo2 x9)) (hib2 x10) (lob2 x11) x2 (strow2 x3) (strow3 x3)
  else k1_pay4 (hi2 x8) (lo2 x9) (hib2 x10) (lob2 x11) x2 (strow2 x3) (strow3 x3)

/-- The five branch conditions, in plain numbers. -/
theorem conds1 (i : grid1.Coords) :
    (k1_cond1 i = 1#1 ↔ (i 1).val < 7) ∧ (k1_cond2 i = 1#1 ↔ (i 1).val = 7) ∧ (k1_cond3 i = 1#1 ↔ 7 < (i 1).val ∧ (i 1).val < 39)
      ∧ (k1_cond4 i = 1#1 ↔ (i 1).val = 39) ∧ (k1_cond5 i = 1#1 ↔ 39 < (i 1).val) := by
  unfold k1_cond1 k1_cond2 k1_cond3 k1_cond4 k1_cond5
  generalize i 1 = j
  revert j
  decide

end Cert.KernelIdeal.Gen

end
-- ==== Proof.WriteRun.lean ====
module

public import proofs.«01_k».proof.Proof.WritePayload

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The second kernel's body where its branch number 1 is taken: the inputs are kept, the output ends at its named contents. -/
theorem writeRun1 (c : Dev nD) (i : grid1.Coords) (h1 : k1_cond1 i = 1#1) (h2 : ¬ k1_cond2 i = 1#1) (h3 : ¬ k1_cond3 i = 1#1) (h4 : ¬ k1_cond4 i = 1#1) (h5 : ¬ k1_cond5 i = 1#1) (arg2 : Memref sig .tc .vmem S512x2048 .f32) (harg2 : arg2.IsWhole) (arg3 : Memref sig .tc .vmem S192x2048 .bf16) (harg3 : arg3.IsWhole) (arg4 : Memref sig .tc .vmem S48x2048 .bf16) (harg4 : arg4.IsWhole) (arg5 : Memref sig .tc .vmem S8x2048 .f32) (harg5 : arg5.IsWhole) (arg6 : Memref sig .tc .vmem S512x192 .f32) (harg6 : arg6.IsWhole) (arg7 : Memref sig .tc .vmem S512x192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x48 .f32) (harg10 : arg10.IsWhole) (arg11 : Memref sig .tc .vmem S512x48 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S1x512x2048 .f32) (harg14 : arg14.IsWhole)
    (x0 : Vec F S512x2048 .f32) (x1 : Vec F S192x2048 .bf16) (x2 : Vec F S48x2048 .bf16) (x3 : Vec F S8x2048 .f32) (x4 : Vec F S512x192 .f32) (x5 : Vec F S512x192 .f32) (x6 : Vec F S512x1 .f32) (x7 : Vec F S512x1 .f32) (x8 : Vec F S512x48 .f32) (x9 : Vec F S512x48 .f32) (x10 : Vec F S512x1 .f32) (x11 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k1_pay1 x0)) -∗ K ⟨⟩))
          ⊢ wp frame (wpE (defs₀ (F := F)) Variants.none c none) E (cc1__write_kernel i arg2 harg2 arg3 harg3 arg4 harg4 arg5 harg5 arg6 harg6 arg7 harg7 arg8 harg8 arg9 harg9 arg10 harg10 arg11 harg11 arg12 harg12 arg13 harg13 arg14 harg14) K := by
    intro E K
    simp only [cc1__write_kernel_eq_skeleton]; unfold cc1__write_kernel_skel
    simp only [dif_pos h1, dif_neg h2, dif_neg h3, dif_neg h4, dif_neg h5]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; isplitr; swap; · iexact H12
    ipureintro
    sl_unfold_words
    refine (read_whole_write (S := S1x512x2048) arg14.view _ hz3 _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S192x2048) hz2, View.ld_unit_zero (S := S48x2048) hz2]

set_option maxHeartbeats 1600000 in
/-- The second kernel's body where its branch number 2 is taken: the inputs are kept, the output ends at its named contents. -/
theorem writeRun2 (c : Dev nD) (i : grid1.Coords) (h1 : ¬ k1_cond1 i = 1#1) (h2 : k1_cond2 i = 1#1) (h3 : ¬ k1_cond3 i = 1#1) (h4 : ¬ k1_cond4 i = 1#1) (h5 : ¬ k1_cond5 i = 1#1) (arg2 : Memref sig .tc .vmem S512x2048 .f32) (harg2 : arg2.IsWhole) (arg3 : Memref sig .tc .vmem S192x2048 .bf16) (harg3 : arg3.IsWhole) (arg4 : Memref sig .tc .vmem S48x2048 .bf16) (harg4 : arg4.IsWhole) (arg5 : Memref sig .tc .vmem S8x2048 .f32) (harg5 : arg5.IsWhole) (arg6 : Memref sig .tc .vmem S512x192 .f32) (harg6 : arg6.IsWhole) (arg7 : Memref sig .tc .vmem S512x192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x48 .f32) (harg10 : arg10.IsWhole) (arg11 : Memref sig .tc .vmem S512x48 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S1x512x2048 .f32) (harg14 : arg14.IsWhole)
    (x0 : Vec F S512x2048 .f32) (x1 : Vec F S192x2048 .bf16) (x2 : Vec F S48x2048 .bf16) (x3 : Vec F S8x2048 .f32) (x4 : Vec F S512x192 .f32) (x5 : Vec F S512x192 .f32) (x6 : Vec F S512x1 .f32) (x7 : Vec F S512x1 .f32) (x8 : Vec F S512x48 .f32) (x9 : Vec F S512x48 .f32) (x10 : Vec F S512x1 .f32) (x11 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k1_pay5 (BitVec.ofNat 32 (i 1).val) x0 (hi1 x4) (lo1 x5) (hib1 x6) (lob1 x7) x1 (strow0 x3) (strow1 x3))) -∗ K ⟨⟩))
          ⊢ wp frame (wpE (defs₀ (F := F)) Variants.none c none) E (cc1__write_kernel i arg2 harg2 arg3 harg3 arg4 harg4 arg5 harg5 arg6 harg6 arg7 harg7 arg8 harg8 arg9 harg9 arg10 harg10 arg11 harg11 arg12 harg12 arg13 harg13 arg14 harg14) K := by
    intro E K
    simp only [cc1__write_kernel_eq_skeleton]; unfold cc1__write_kernel_skel
    simp only [dif_neg h1, dif_pos h2, dif_neg h3, dif_neg h4, dif_neg h5]
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; isplitr; swap; · iexact H12
    ipureintro
    sl_unfold_words
    refine (read_whole_write (S := S1x512x2048) arg14.view _ hz3 _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S192x2048) hz2, View.ld_unit_zero (S := S48x2048) hz2]
    rfl

set_option maxHeartbeats 1600000 in
/-- The second kernel's body where its branch number 3 is taken: the inputs are kept, the output ends at its named contents. -/
theorem writeRun3 (c : Dev nD) (i : grid1.Coords) (h1 : ¬ k1_cond1 i = 1#1) (h2 : ¬ k1_cond2 i = 1#1) (h3 : k1_cond3 i = 1#1) (h4 : ¬ k1_cond4 i = 1#1) (h5 : ¬ k1_cond5 i = 1#1) (arg2 : Memref sig .tc .vmem S512x2048 .f32) (harg2 : arg2.IsWhole) (arg3 : Memref sig .tc .vmem S192x2048 .bf16) (harg3 : arg3.IsWhole) (arg4 : Memref sig .tc .vmem S48x2048 .bf16) (harg4 : arg4.IsWhole) (arg5 : Memref sig .tc .vmem S8x2048 .f32) (harg5 : arg5.IsWhole) (arg6 : Memref sig .tc .vmem S512x192 .f32) (harg6 : arg6.IsWhole) (arg7 : Memref sig .tc .vmem S512x192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x48 .f32) (harg10 : arg10.IsWhole) (arg11 : Memref sig .tc .vmem S512x48 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S1x512x2048 .f32) (harg14 : arg14.IsWhole)
    (x0 : Vec F S512x2048 .f32) (x1 : Vec F S192x2048 .bf16) (x2 : Vec F S48x2048 .bf16) (x3 : Vec F S8x2048 .f32) (x4 : Vec F S512x192 .f32) (x5 : Vec F S512x192 .f32) (x6 : Vec F S512x1 .f32) (x7 : Vec F S512x1 .f32) (x8 : Vec F S512x48 .f32) (x9 : Vec F S512x48 .f32) (x10 : Vec F S512x1 .f32) (x11 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k1_pay2 (hi1 x4) (lo1 x5) (hib1 x6) (lob1 x7) x1 (strow0 x3) (strow1 x3))) -∗ K ⟨⟩))
          ⊢ wp frame (wpE (defs₀ (F := F)) Variants.none c none) E (cc1__write_kernel i arg2 harg2 arg3 harg3 arg4 harg4 arg5 harg5 arg6 harg6 arg7 harg7 arg8 harg8 arg9 harg9 arg10 harg10 arg11 harg11 arg12 harg12 arg13 harg13 arg14 harg14) K := by
    intro E K
    simp only [cc1__write_kernel_eq_skeleton]; unfold cc1__write_kernel_skel
    simp only [dif_neg h1, dif_neg h2, dif_pos h3, dif_neg h4, dif_neg h5]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; isplitr; swap; · iexact H12
    ipureintro
    sl_unfold_words
    refine (read_whole_write (S := S1x512x2048) arg14.view _ hz3 _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S192x2048) hz2, View.ld_unit_zero (S := S48x2048) hz2]
    rfl

set_option maxHeartbeats 1600000 in
/-- The second kernel's body where its branch number 4 is taken: the inputs are kept, the output ends at its named contents. -/
theorem writeRun4 (c : Dev nD) (i : grid1.Coords) (h1 : ¬ k1_cond1 i = 1#1) (h2 : ¬ k1_cond2 i = 1#1) (h3 : ¬ k1_cond3 i = 1#1) (h4 : k1_cond4 i = 1#1) (h5 : ¬ k1_cond5 i = 1#1) (arg2 : Memref sig .tc .vmem S512x2048 .f32) (harg2 : arg2.IsWhole) (arg3 : Memref sig .tc .vmem S192x2048 .bf16) (harg3 : arg3.IsWhole) (arg4 : Memref sig .tc .vmem S48x2048 .bf16) (harg4 : arg4.IsWhole) (arg5 : Memref sig .tc .vmem S8x2048 .f32) (harg5 : arg5.IsWhole) (arg6 : Memref sig .tc .vmem S512x192 .f32) (harg6 : arg6.IsWhole) (arg7 : Memref sig .tc .vmem S512x192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x48 .f32) (harg10 : arg10.IsWhole) (arg11 : Memref sig .tc .vmem S512x48 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S1x512x2048 .f32) (harg14 : arg14.IsWhole)
    (x0 : Vec F S512x2048 .f32) (x1 : Vec F S192x2048 .bf16) (x2 : Vec F S48x2048 .bf16) (x3 : Vec F S8x2048 .f32) (x4 : Vec F S512x192 .f32) (x5 : Vec F S512x192 .f32) (x6 : Vec F S512x1 .f32) (x7 : Vec F S512x1 .f32) (x8 : Vec F S512x48 .f32) (x9 : Vec F S512x48 .f32) (x10 : Vec F S512x1 .f32) (x11 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k1_pay3 (k1_pay6 (BitVec.ofNat 32 (i 1).val)) (k1_pay7 (hi1 x4) (lo1 x5) (hib1 x6) (lob1 x7) x1 (strow0 x3) (strow1 x3)) (k1_pay8 (hi2 x8) (lo2 x9)) (hib2 x10) (lob2 x11) x2 (strow2 x3) (strow3 x3))) -∗ K ⟨⟩))
          ⊢ wp frame (wpE (defs₀ (F := F)) Variants.none c none) E (cc1__write_kernel i arg2 harg2 arg3 harg3 arg4 harg4 arg5 harg5 arg6 harg6 arg7 harg7 arg8 harg8 arg9 harg9 arg10 harg10 arg11 harg11 arg12 harg12 arg13 harg13 arg14 harg14) K := by
    intro E K
    simp only [cc1__write_kernel_eq_skeleton]; unfold cc1__write_kernel_skel
    simp only [dif_neg h1, dif_neg h2, dif_neg h3, dif_pos h4, dif_neg h5]
    simp only [k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; isplitr; swap; · iexact H12
    ipureintro
    sl_unfold_words
    refine (read_whole_write (S := S1x512x2048) arg14.view _ hz3 _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S192x2048) hz2, View.ld_unit_zero (S := S48x2048) hz2]
    rfl

set_option maxHeartbeats 1600000 in
/-- The second kernel's body where its branch number 5 is taken: the inputs are kept, the output ends at its named contents. -/
theorem writeRun5 (c : Dev nD) (i : grid1.Coords) (h1 : ¬ k1_cond1 i = 1#1) (h2 : ¬ k1_cond2 i = 1#1) (h3 : ¬ k1_cond3 i = 1#1) (h4 : ¬ k1_cond4 i = 1#1) (h5 : k1_cond5 i = 1#1) (arg2 : Memref sig .tc .vmem S512x2048 .f32) (harg2 : arg2.IsWhole) (arg3 : Memref sig .tc .vmem S192x2048 .bf16) (harg3 : arg3.IsWhole) (arg4 : Memref sig .tc .vmem S48x2048 .bf16) (harg4 : arg4.IsWhole) (arg5 : Memref sig .tc .vmem S8x2048 .f32) (harg5 : arg5.IsWhole) (arg6 : Memref sig .tc .vmem S512x192 .f32) (harg6 : arg6.IsWhole) (arg7 : Memref sig .tc .vmem S512x192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x48 .f32) (harg10 : arg10.IsWhole) (arg11 : Memref sig .tc .vmem S512x48 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S1x512x2048 .f32) (harg14 : arg14.IsWhole)
    (x0 : Vec F S512x2048 .f32) (x1 : Vec F S192x2048 .bf16) (x2 : Vec F S48x2048 .bf16) (x3 : Vec F S8x2048 .f32) (x4 : Vec F S512x192 .f32) (x5 : Vec F S512x192 .f32) (x6 : Vec F S512x1 .f32) (x7 : Vec F S512x1 .f32) (x8 : Vec F S512x48 .f32) (x9 : Vec F S512x48 .f32) (x10 : Vec F S512x1 .f32) (x11 : Vec F S512x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (k1_pay4 (hi2 x8) (lo2 x9) (hib2 x10) (lob2 x11) x2 (strow2 x3) (strow3 x3))) -∗ K ⟨⟩))
          ⊢ wp frame (wpE (defs₀ (F := F)) Variants.none c none) E (cc1__write_kernel i arg2 harg2 arg3 harg3 arg4 harg4 arg5 harg5 arg6 harg6 arg7 harg7 arg8 harg8 arg9 harg9 arg10 harg10 arg11 harg11 arg12 harg12 arg13 harg13 arg14 harg14) K := by
    intro E K
    simp only [cc1__write_kernel_eq_skeleton]; unfold cc1__write_kernel_skel
    simp only [dif_neg h1, dif_neg h2, dif_neg h3, dif_neg h4, dif_pos h5]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    iexists _; isplitr; swap; · iexact H12
    ipureintro
    sl_unfold_words
    refine (read_whole_write (S := S1x512x2048) arg14.view _ hz3 _ _).trans ?_
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S512x2048) hz2, View.ld_unit_zero (S := S192x2048) hz2, View.ld_unit_zero (S := S48x2048) hz2]
    rfl

/-- The second kernel's body on whole staging buffers, at any grid point: the inputs are kept, the output ends at `out1`. -/
theorem writeRun (c : Dev nD) (i : grid1.Coords) (arg2 : Memref sig .tc .vmem S512x2048 .f32) (harg2 : arg2.IsWhole) (arg3 : Memref sig .tc .vmem S192x2048 .bf16) (harg3 : arg3.IsWhole) (arg4 : Memref sig .tc .vmem S48x2048 .bf16) (harg4 : arg4.IsWhole) (arg5 : Memref sig .tc .vmem S8x2048 .f32) (harg5 : arg5.IsWhole) (arg6 : Memref sig .tc .vmem S512x192 .f32) (harg6 : arg6.IsWhole) (arg7 : Memref sig .tc .vmem S512x192 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x48 .f32) (harg10 : arg10.IsWhole) (arg11 : Memref sig .tc .vmem S512x48 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S1x512x2048 .f32) (harg14 : arg14.IsWhole)
    (x0 : Vec F S512x2048 .f32) (x1 : Vec F S192x2048 .bf16) (x2 : Vec F S48x2048 .bf16) (x3 : Vec F S8x2048 .f32) (x4 : Vec F S512x192 .f32) (x5 : Vec F S512x192 .f32) (x6 : Vec F S512x1 .f32) (x7 : Vec F S512x1 .f32) (x8 : Vec F S512x48 .f32) (x9 : Vec F S512x48 .f32) (x10 : Vec F S512x1 .f32) (x11 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare (out1 i x0 x1 x2 x3 x4 x5 x6 x7 x8 x9 x10 x11)) -∗ K ⟨⟩))
          ⊢ wp frame (wpE (defs₀ (F := F)) Variants.none c none) E (cc1__write_kernel i arg2 harg2 arg3 harg3 arg4 harg4 arg5 harg5 arg6 harg6 arg7 harg7 arg8 harg8 arg9 harg9 arg10 harg10 arg11 harg11 arg12 harg12 arg13 harg13 arg14 harg14) K := by
  obtain ⟨c1, c2, c3, c4, c5⟩ := conds1 i
  unfold out1
  by_cases g1 : (i 1).val < 7
  · simp only [if_pos g1]
    exact writeRun1 c i (c1.mpr (by omega)) (mt c2.mp (by omega)) (mt c3.mp (by omega)) (mt c4.mp (by omega)) (mt c5.mp (by omega)) arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 E K
  by_cases g2 : (i 1).val = 7
  · simp only [if_neg g1, if_pos g2]
    exact writeRun2 c i (mt c1.mp (by omega)) (c2.mpr (by omega)) (mt c3.mp (by omega)) (mt c4.mp (by omega)) (mt c5.mp (by omega)) arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 E K
  by_cases g3 : (i 1).val < 39
  · simp only [if_neg g1, if_neg g2, if_pos g3]
    exact writeRun3 c i (mt c1.mp (by omega)) (mt c2.mp (by omega)) (c3.mpr (by omega)) (mt c4.mp (by omega)) (mt c5.mp (by omega)) arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 E K
  by_cases g4 : (i 1).val = 39
  · simp only [if_neg g1, if_neg g2, if_neg g3, if_pos g4]
    exact writeRun4 c i (mt c1.mp (by omega)) (mt c2.mp (by omega)) (mt c3.mp (by omega)) (c4.mpr (by omega)) (mt c5.mp (by omega)) arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 E K
  simp only [if_neg g1, if_neg g2, if_neg g3, if_neg g4]
  exact writeRun5 c i (mt c1.mp (by omega)) (mt c2.mp (by omega)) (mt c3.mp (by omega)) (mt c4.mp (by omega)) (c5.mpr (by omega)) arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 E K

end Cert.KernelIdeal.Gen

end
-- ==== Proof.Write.lean ====
module

public import proofs.«01_k».proof.Proof.WriteRun
public import Idealize.ShloMosaic.Lib.Pipeline.DatRel
public import Idealize.ShloMosaic.Lib.Pipeline.ArrRel

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (W : Dev nD → Valuation τ sig (Elt F))

/-- Window `w`'s block at point `t`, read off its array as the second region finds it. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The block of a window whose last block may overhang its array, over contents `d` of the part that no fetch fills. -/
def fblk1 (c : Dev nD) (w : Fin cfg1.W) (t : Fin cfg1.N) (d : (cfg1.win w).block.Idx → Elt F (cfg1.win w).elt) : (cfg1.win w).block.Idx → Elt F (cfg1.win w).elt :=
  (cfg1.win w).fill (cfg1.grid.coords t) d (iblk1 W c w t)

/-- Contents nothing reads. -/
def dflt1 (w : Fin cfg1.W) : (cfg1.win w).block.Idx → Elt F (cfg1.win w).elt := fun _ => Classical.choice inferInstance

/-- What the body leaves in the output's buffer at point `t`: the named contents of the blocks it found, each over some
    contents of the part no fetch fills. -/
def Left1 (c : Dev nD) (t : Fin cfg1.N) (X : Vec F S1x512x2048 .f32) : Prop :=
  ∃ (d0 : (cfg1.win 0).block.Idx → Elt F (cfg1.win 0).elt) (d4 : (cfg1.win 4).block.Idx → Elt F (cfg1.win 4).elt) (d5 : (cfg1.win 5).block.Idx → Elt F (cfg1.win 5).elt) (d6 : (cfg1.win 6).block.Idx → Elt F (cfg1.win 6).elt) (d7 : (cfg1.win 7).block.Idx → Elt F (cfg1.win 7).elt) (d8 : (cfg1.win 8).block.Idx → Elt F (cfg1.win 8).elt) (d9 : (cfg1.win 9).block.Idx → Elt F (cfg1.win 9).elt) (d10 : (cfg1.win 10).block.Idx → Elt F (cfg1.win 10).elt) (d11 : (cfg1.win 11).block.Idx → Elt F (cfg1.win 11).elt), X = out1 (grid1.coords t) (fblk1 W c 0 t d0) (iblk1 W c 1 t) (iblk1 W c 2 t) (iblk1 W c 3 t) (fblk1 W c 4 t d4) (fblk1 W c 5 t d5) (fblk1 W c 6 t d6) (fblk1 W c 7 t d7) (fblk1 W c 8 t d8) (fblk1 W c 9 t d9) (fblk1 W c 10 t d10) (fblk1 W c 11 t d11)

/-- The one output window, described by `Left1`. -/
def fgt1 : Fin cfg1.W → Bool := fun w => w.val == 12

/-- The relation the second region's output is held to. -/
def Rl1 (c : Dev nD) (w : Fin cfg1.W) (t : Fin cfg1.N) (X : (cfg1.win w).block.Idx → Elt F (cfg1.win w).elt) : Prop :=
  match w with
  | ⟨0, _⟩ => True
  | ⟨1, _⟩ => True
  | ⟨2, _⟩ => True
  | ⟨3, _⟩ => True
  | ⟨4, _⟩ => True
  | ⟨5, _⟩ => True
  | ⟨6, _⟩ => True
  | ⟨7, _⟩ => True
  | ⟨8, _⟩ => True
  | ⟨9, _⟩ => True
  | ⟨10, _⟩ => True
  | ⟨11, _⟩ => True
  | ⟨12, _⟩ => Left1 W c t X

/-- What the second region's pipeline does: inputs stay, the output is described by `Left1`, nothing owed. -/
def dat1 (c : Dev nD) : Dat τ (Elt F) Unit ℕ (UR sig nD τ) ℕ cfg1 c where
  A w := W c (Proc.devRef .tc (Pipeline.arrRef spec1 w))
  after w t := match w with
    | ⟨0, _⟩ => fblk1 W c 0 t (dflt1 0)
    | ⟨1, _⟩ => iblk1 W c 1 t
    | ⟨2, _⟩ => iblk1 W c 2 t
    | ⟨3, _⟩ => iblk1 W c 3 t
    | ⟨4, _⟩ => fblk1 W c 4 t (dflt1 4)
    | ⟨5, _⟩ => fblk1 W c 5 t (dflt1 5)
    | ⟨6, _⟩ => fblk1 W c 6 t (dflt1 6)
    | ⟨7, _⟩ => fblk1 W c 7 t (dflt1 7)
    | ⟨8, _⟩ => fblk1 W c 8 t (dflt1 8)
    | ⟨9, _⟩ => fblk1 W c 9 t (dflt1 9)
    | ⟨10, _⟩ => fblk1 W c 10 t (dflt1 10)
    | ⟨11, _⟩ => fblk1 W c 11 t (dflt1 11)
    | ⟨12, h⟩ => Pipeline.Dat.unnamed (cfg := cfg1) ⟨12, h⟩ t
  Φ _ := Pipeline.ΦA spec1 c
  q w := Pipeline.shareOf spec1 w
  owed _ := 0

theorem A1_eq (c : Dev nD) (w : Fin cfg1.W) : (dat1 W c).A w = W c (Proc.devRef .tc (Pipeline.arrRef spec1 w)) := by dsimp only [dat1]
theorem after1_1 (c : Dev nD) (t : Fin cfg1.N) : (dat1 W c).after 1 t = iblk1 W c 1 t := by dsimp only [dat1]
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem after1_2 (c : Dev nD) (t : Fin cfg1.N) : (dat1 W c).after 2 t = iblk1 W c 2 t := by dsimp only [dat1]
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem after1_3 (c : Dev nD) (t : Fin cfg1.N) : (dat1 W c).after 3 t = iblk1 W c 3 t := by dsimp only [dat1]
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem cut1_0 (c : Dev nD) (t : Fin cfg1.N) : (cfg1.win 0).cut (cfg1.grid.coords t) ((dat1 W c).after 0 t) = iblk1 W c 0 t := by
  dsimp only [dat1]; unfold fblk1; rw [Pipeline.Window.cut_fill]
theorem before1_0 (c : Dev nD) (t : Fin cfg1.N) (d) : (dat1 W c).before 0 t d = fblk1 W c 0 t d :=
  ((dat1 W c).before_in_eq_fetched 0 rfl (fun _ => rfl)
      (fun t t' h => funext fun a => congrArg (fun n => Pipeline.Clip.of n ((cfg1.win 0).size a) (S4002x2048.size a)) (congrFun h a))
      (fun t => by rw [cut1_0]; unfold Dat.blockOf iblk1; rw [A1_eq]; try rfl) t d).trans
    (by unfold Dat.fetched fblk1; unfold Dat.blockOf iblk1; rw [A1_eq]; try rfl)
theorem cut1_4 (c : Dev nD) (t : Fin cfg1.N) : (cfg1.win 4).cut (cfg1.grid.coords t) ((dat1 W c).after 4 t) = iblk1 W c 4 t := by
  dsimp only [dat1]; unfold fblk1; rw [Pipeline.Window.cut_fill]
theorem before1_4 (c : Dev nD) (t : Fin cfg1.N) (d) : (dat1 W c).before 4 t d = fblk1 W c 4 t d :=
  ((dat1 W c).before_in_eq_fetched 4 rfl (fun _ => rfl)
      (fun t t' h => funext fun a => congrArg (fun n => Pipeline.Clip.of n ((cfg1.win 4).size a) (S16000x192.size a)) (congrFun h a))
      (fun t => by rw [cut1_4]; unfold Dat.blockOf iblk1; rw [A1_eq]; try rfl) t d).trans
    (by unfold Dat.fetched fblk1; unfold Dat.blockOf iblk1; rw [A1_eq]; try rfl)
theorem cut1_5 (c : Dev nD) (t : Fin cfg1.N) : (cfg1.win 5).cut (cfg1.grid.coords t) ((dat1 W c).after 5 t) = iblk1 W c 5 t := by
  dsimp only [dat1]; unfold fblk1; rw [Pipeline.Window.cut_fill]
theorem before1_5 (c : Dev nD) (t : Fin cfg1.N) (d) : (dat1 W c).before 5 t d = fblk1 W c 5 t d :=
  ((dat1 W c).before_in_eq_fetched 5 rfl (fun _ => rfl)
      (fun t t' h => funext fun a => congrArg (fun n => Pipeline.Clip.of n ((cfg1.win 5).size a) (S16000x192.size a)) (congrFun h a))
      (fun t => by rw [cut1_5]; unfold Dat.blockOf iblk1; rw [A1_eq]; try rfl) t d).trans
    (by unfold Dat.fetched fblk1; unfold Dat.blockOf iblk1; rw [A1_eq]; try rfl)
theorem cut1_6 (c : Dev nD) (t : Fin cfg1.N) : (cfg1.win 6).cut (cfg1.grid.coords t) ((dat1 W c).after 6 t) = iblk1 W c 6 t := by
  dsimp only [dat1]; unfold fblk1; rw [Pipeline.Window.cut_fill]
theorem before1_6 (c : Dev nD) (t : Fin cfg1.N) (d) : (dat1 W c).before 6 t d = fblk1 W c 6 t d :=
  ((dat1 W c).before_in_eq_fetched 6 rfl (fun _ => rfl)
      (fun t t' h => funext fun a => congrArg (fun n => Pipeline.Clip.of n ((cfg1.win 6).size a) (S16000x1.size a)) (congrFun h a))
      (fun t => by rw [cut1_6]; unfold Dat.blockOf iblk1; rw [A1_eq]; try rfl) t d).trans
    (by unfold Dat.fetched fblk1; unfold Dat.blockOf iblk1; rw [A1_eq]; try rfl)
theorem cut1_7 (c : Dev nD) (t : Fin cfg1.N) : (cfg1.win 7).cut (cfg1.grid.coords t) ((dat1 W c).after 7 t) = iblk1 W c 7 t := by
  dsimp only [dat1]; unfold fblk1; rw [Pipeline.Window.cut_fill]
theorem before1_7 (c : Dev nD) (t : Fin cfg1.N) (d) : (dat1 W c).before 7 t d = fblk1 W c 7 t d :=
  ((dat1 W c).before_in_eq_fetched 7 rfl (fun _ => rfl)
      (fun t t' h => funext fun a => congrArg (fun n => Pipeline.Clip.of n ((cfg1.win 7).size a) (S16000x1.size a)) (congrFun h a))
      (fun t => by rw [cut1_7]; unfold Dat.blockOf iblk1; rw [A1_eq]; try rfl) t d).trans
    (by unfold Dat.fetched fblk1; unfold Dat.blockOf iblk1; rw [A1_eq]; try rfl)
theorem cut1_8 (c : Dev nD) (t : Fin cfg1.N) : (cfg1.win 8).cut (cfg1.grid.coords t) ((dat1 W c).after 8 t) = iblk1 W c 8 t := by
  dsimp only [dat1]; unfold fblk1; rw [Pipeline.Window.cut_fill]
theorem before1_8 (c : Dev nD) (t : Fin cfg1.N) (d) : (dat1 W c).before 8 t d = fblk1 W c 8 t d :=
  ((dat1 W c).before_in_eq_fetched 8 rfl (fun _ => rfl)
      (fun t t' h => funext fun a => congrArg (fun n => Pipeline.Clip.of n ((cfg1.win 8).size a) (S80000x48.size a)) (congrFun h a))
      (fun t => by rw [cut1_8]; unfold Dat.blockOf iblk1; rw [A1_eq]; try rfl) t d).trans
    (by unfold Dat.fetched fblk1; unfold Dat.blockOf iblk1; rw [A1_eq]; try rfl)
theorem cut1_9 (c : Dev nD) (t : Fin cfg1.N) : (cfg1.win 9).cut (cfg1.grid.coords t) ((dat1 W c).after 9 t) = iblk1 W c 9 t := by
  dsimp only [dat1]; unfold fblk1; rw [Pipeline.Window.cut_fill]
theorem before1_9 (c : Dev nD) (t : Fin cfg1.N) (d) : (dat1 W c).before 9 t d = fblk1 W c 9 t d :=
  ((dat1 W c).before_in_eq_fetched 9 rfl (fun _ => rfl)
      (fun t t' h => funext fun a => congrArg (fun n => Pipeline.Clip.of n ((cfg1.win 9).size a) (S80000x48.size a)) (congrFun h a))
      (fun t => by rw [cut1_9]; unfold Dat.blockOf iblk1; rw [A1_eq]; try rfl) t d).trans
    (by unfold Dat.fetched fblk1; unfold Dat.blockOf iblk1; rw [A1_eq]; try rfl)
theorem cut1_10 (c : Dev nD) (t : Fin cfg1.N) : (cfg1.win 10).cut (cfg1.grid.coords t) ((dat1 W c).after 10 t) = iblk1 W c 10 t := by
  dsimp only [dat1]; unfold fblk1; rw [Pipeline.Window.cut_fill]
theorem before1_10 (c : Dev nD) (t : Fin cfg1.N) (d) : (dat1 W c).before 10 t d = fblk1 W c 10 t d :=
  ((dat1 W c).before_in_eq_fetched 10 rfl (fun _ => rfl)
      (fun t t' h => funext fun a => congrArg (fun n => Pipeline.Clip.of n ((cfg1.win 10).size a) (S80000x1.size a)) (congrFun h a))
      (fun t => by rw [cut1_10]; unfold Dat.blockOf iblk1; rw [A1_eq]; try rfl) t d).trans
    (by unfold Dat.fetched fblk1; unfold Dat.blockOf iblk1; rw [A1_eq]; try rfl)
theorem cut1_11 (c : Dev nD) (t : Fin cfg1.N) : (cfg1.win 11).cut (cfg1.grid.coords t) ((dat1 W c).after 11 t) = iblk1 W c 11 t := by
  dsimp only [dat1]; unfold fblk1; rw [Pipeline.Window.cut_fill]
theorem before1_11 (c : Dev nD) (t : Fin cfg1.N) (d) : (dat1 W c).before 11 t d = fblk1 W c 11 t d :=
  ((dat1 W c).before_in_eq_fetched 11 rfl (fun _ => rfl)
      (fun t t' h => funext fun a => congrArg (fun n => Pipeline.Clip.of n ((cfg1.win 11).size a) (S80000x1.size a)) (congrFun h a))
      (fun t => by rw [cut1_11]; unfold Dat.blockOf iblk1; rw [A1_eq]; try rfl) t d).trans
    (by unfold Dat.fetched fblk1; unfold Dat.blockOf iblk1; rw [A1_eq]; try rfl)

abbrev ms1_0 (t : Fin cfg1.N) : Memref sig .tc .vmem S512x2048 .f32 := win1_0.stage (cfg1.slots t 0)
abbrev ms1_1 (t : Fin cfg1.N) : Memref sig .tc .vmem S192x2048 .bf16 := win1_1.stage (cfg1.slots t 1)
abbrev ms1_2 (t : Fin cfg1.N) : Memref sig .tc .vmem S48x2048 .bf16 := win1_2.stage (cfg1.slots t 2)
abbrev ms1_3 (t : Fin cfg1.N) : Memref sig .tc .vmem S8x2048 .f32 := win1_3.stage (cfg1.slots t 3)
abbrev ms1_4 (t : Fin cfg1.N) : Memref sig .tc .vmem S512x192 .f32 := win1_4.stage (cfg1.slots t 4)
abbrev ms1_5 (t : Fin cfg1.N) : Memref sig .tc .vmem S512x192 .f32 := win1_5.stage (cfg1.slots t 5)
abbrev ms1_6 (t : Fin cfg1.N) : Memref sig .tc .vmem S512x1 .f32 := win1_6.stage (cfg1.slots t 6)
abbrev ms1_7 (t : Fin cfg1.N) : Memref sig .tc .vmem S512x1 .f32 := win1_7.stage (cfg1.slots t 7)
abbrev ms1_8 (t : Fin cfg1.N) : Memref sig .tc .vmem S512x48 .f32 := win1_8.stage (cfg1.slots t 8)
abbrev ms1_9 (t : Fin cfg1.N) : Memref sig .tc .vmem S512x48 .f32 := win1_9.stage (cfg1.slots t 9)
abbrev ms1_10 (t : Fin cfg1.N) : Memref sig .tc .vmem S512x1 .f32 := win1_10.stage (cfg1.slots t 10)
abbrev ms1_11 (t : Fin cfg1.N) : Memref sig .tc .vmem S512x1 .f32 := win1_11.stage (cfg1.slots t 11)
abbrev ms1_12 (t : Fin cfg1.N) : Memref sig .tc .vmem S1x512x2048 .f32 := win1_12.stage (cfg1.slots t 12)
theorem leave1_0 (c : Dev nD) (t : Fin cfg1.N) (d) : owns (c : Thread nD τ) (ms1_0 t) fullShare (fblk1 W c 0 t d) ⊢ (iprop(∃ d, owns (c : Thread nD τ) (ms1_0 t) fullShare ((cfg1.win 0).fill (cfg1.grid.coords t) d ((cfg1.win 0).cut (cfg1.grid.coords t) ((dat1 W c).after 0 t)))) : sProp 𝕄) := by
  rw [cut1_0]; unfold fblk1; iintro H; iexists d; iexact H
theorem leave1_4 (c : Dev nD) (t : Fin cfg1.N) (d) : owns (c : Thread nD τ) (ms1_4 t) fullShare (fblk1 W c 4 t d) ⊢ (iprop(∃ d, owns (c : Thread nD τ) (ms1_4 t) fullShare ((cfg1.win 4).fill (cfg1.grid.coords t) d ((cfg1.win 4).cut (cfg1.grid.coords t) ((dat1 W c).after 4 t)))) : sProp 𝕄) := by
  rw [cut1_4]; unfold fblk1; iintro H; iexists d; iexact H
theorem leave1_5 (c : Dev nD) (t : Fin cfg1.N) (d) : owns (c : Thread nD τ) (ms1_5 t) fullShare (fblk1 W c 5 t d) ⊢ (iprop(∃ d, owns (c : Thread nD τ) (ms1_5 t) fullShare ((cfg1.win 5).fill (cfg1.grid.coords t) d ((cfg1.win 5).cut (cfg1.grid.coords t) ((dat1 W c).after 5 t)))) : sProp 𝕄) := by
  rw [cut1_5]; unfold fblk1; iintro H; iexists d; iexact H
theorem leave1_6 (c : Dev nD) (t : Fin cfg1.N) (d) : owns (c : Thread nD τ) (ms1_6 t) fullShare (fblk1 W c 6 t d) ⊢ (iprop(∃ d, owns (c : Thread nD τ) (ms1_6 t) fullShare ((cfg1.win 6).fill (cfg1.grid.coords t) d ((cfg1.win 6).cut (cfg1.grid.coords t) ((dat1 W c).after 6 t)))) : sProp 𝕄) := by
  rw [cut1_6]; unfold fblk1; iintro H; iexists d; iexact H
theorem leave1_7 (c : Dev nD) (t : Fin cfg1.N) (d) : owns (c : Thread nD τ) (ms1_7 t) fullShare (fblk1 W c 7 t d) ⊢ (iprop(∃ d, owns (c : Thread nD τ) (ms1_7 t) fullShare ((cfg1.win 7).fill (cfg1.grid.coords t) d ((cfg1.win 7).cut (cfg1.grid.coords t) ((dat1 W c).after 7 t)))) : sProp 𝕄) := by
  rw [cut1_7]; unfold fblk1; iintro H; iexists d; iexact H
theorem leave1_8 (c : Dev nD) (t : Fin cfg1.N) (d) : owns (c : Thread nD τ) (ms1_8 t) fullShare (fblk1 W c 8 t d) ⊢ (iprop(∃ d, owns (c : Thread nD τ) (ms1_8 t) fullShare ((cfg1.win 8).fill (cfg1.grid.coords t) d ((cfg1.win 8).cut (cfg1.grid.coords t) ((dat1 W c).after 8 t)))) : sProp 𝕄) := by
  rw [cut1_8]; unfold fblk1; iintro H; iexists d; iexact H
theorem leave1_9 (c : Dev nD) (t : Fin cfg1.N) (d) : owns (c : Thread nD τ) (ms1_9 t) fullShare (fblk1 W c 9 t d) ⊢ (iprop(∃ d, owns (c : Thread nD τ) (ms1_9 t) fullShare ((cfg1.win 9).fill (cfg1.grid.coords t) d ((cfg1.win 9).cut (cfg1.grid.coords t) ((dat1 W c).after 9 t)))) : sProp 𝕄) := by
  rw [cut1_9]; unfold fblk1; iintro H; iexists d; iexact H
theorem leave1_10 (c : Dev nD) (t : Fin cfg1.N) (d) : owns (c : Thread nD τ) (ms1_10 t) fullShare (fblk1 W c 10 t d) ⊢ (iprop(∃ d, owns (c : Thread nD τ) (ms1_10 t) fullShare ((cfg1.win 10).fill (cfg1.grid.coords t) d ((cfg1.win 10).cut (cfg1.grid.coords t) ((dat1 W c).after 10 t)))) : sProp 𝕄) := by
  rw [cut1_10]; unfold fblk1; iintro H; iexists d; iexact H
theorem leave1_11 (c : Dev nD) (t : Fin cfg1.N) (d) : owns (c : Thread nD τ) (ms1_11 t) fullShare (fblk1 W c 11 t d) ⊢ (iprop(∃ d, owns (c : Thread nD τ) (ms1_11 t) fullShare ((cfg1.win 11).fill (cfg1.grid.coords t) d ((cfg1.win 11).cut (cfg1.grid.coords t) ((dat1 W c).after 11 t)))) : sProp 𝕄) := by
  rw [cut1_11]; unfold fblk1; iintro H; iexists d; iexact H

/-- What the body is called with at point `t`, -/
def bodyPre1 (c : Dev nD) (t : Fin cfg1.N) : sProp 𝕄 :=
  iprop((dat1 W c).Φ t.castSucc ∗ (dat1 W c).owesAt () t.castSucc ∗ (∃ d, owns (c : Thread nD τ) (ms1_0 t) fullShare ((dat1 W c).before 0 t d)) ∗ (∃ d, owns (c : Thread nD τ) (ms1_1 t) fullShare ((dat1 W c).before 1 t d)) ∗ (∃ d, owns (c : Thread nD τ) (ms1_2 t) fullShare ((dat1 W c).before 2 t d)) ∗ (∃ d, owns (c : Thread nD τ) (ms1_3 t) fullShare ((dat1 W c).before 3 t d)) ∗ (∃ d, owns (c : Thread nD τ) (ms1_4 t) fullShare ((dat1 W c).before 4 t d)) ∗ (∃ d, owns (c : Thread nD τ) (ms1_5 t) fullShare ((dat1 W c).before 5 t d)) ∗ (∃ d, owns (c : Thread nD τ) (ms1_6 t) fullShare ((dat1 W c).before 6 t d)) ∗ (∃ d, owns (c : Thread nD τ) (ms1_7 t) fullShare ((dat1 W c).before 7 t d)) ∗ (∃ d, owns (c : Thread nD τ) (ms1_8 t) fullShare ((dat1 W c).before 8 t d)) ∗ (∃ d, owns (c : Thread nD τ) (ms1_9 t) fullShare ((dat1 W c).before 9 t d)) ∗ (∃ d, owns (c : Thread nD τ) (ms1_10 t) fullShare ((dat1 W c).before 10 t d)) ∗ (∃ d, owns (c : Thread nD τ) (ms1_11 t) fullShare ((dat1 W c).before 11 t d)) ∗ (∃ Y, ⌜((dat1 W c).toRRel fgt1 (Rl1 W c)).Finds 12 t Y⌝ ∗ owns (c : Thread nD τ) (ms1_12 t) fullShare Y))

/-- and what it returns. -/
def bodyPost1 (c : Dev nD) (t : Fin cfg1.N) : sProp 𝕄 :=
  iprop((dat1 W c).Φ t.succ ∗ (dat1 W c).owesAt () t.succ ∗ (∃ d, owns (c : Thread nD τ) (ms1_0 t) fullShare ((cfg1.win 0).fill (cfg1.grid.coords t) d ((cfg1.win 0).cut (cfg1.grid.coords t) ((dat1 W c).after 0 t)))) ∗ owns (c : Thread nD τ) (ms1_1 t) fullShare ((dat1 W c).after 1 t) ∗ owns (c : Thread nD τ) (ms1_2 t) fullShare ((dat1 W c).after 2 t) ∗ owns (c : Thread nD τ) (ms1_3 t) fullShare ((dat1 W c).after 3 t) ∗ (∃ d, owns (c : Thread nD τ) (ms1_4 t) fullShare ((cfg1.win 4).fill (cfg1.grid.coords t) d ((cfg1.win 4).cut (cfg1.grid.coords t) ((dat1 W c).after 4 t)))) ∗ (∃ d, owns (c : Thread nD τ) (ms1_5 t) fullShare ((cfg1.win 5).fill (cfg1.grid.coords t) d ((cfg1.win 5).cut (cfg1.grid.coords t) ((dat1 W c).after 5 t)))) ∗ (∃ d, owns (c : Thread nD τ) (ms1_6 t) fullShare ((cfg1.win 6).fill (cfg1.grid.coords t) d ((cfg1.win 6).cut (cfg1.grid.coords t) ((dat1 W c).after 6 t)))) ∗ (∃ d, owns (c : Thread nD τ) (ms1_7 t) fullShare ((cfg1.win 7).fill (cfg1.grid.coords t) d ((cfg1.win 7).cut (cfg1.grid.coords t) ((dat1 W c).after 7 t)))) ∗ (∃ d, owns (c : Thread nD τ) (ms1_8 t) fullShare ((cfg1.win 8).fill (cfg1.grid.coords t) d ((cfg1.win 8).cut (cfg1.grid.coords t) ((dat1 W c).after 8 t)))) ∗ (∃ d, owns (c : Thread nD τ) (ms1_9 t) fullShare ((cfg1.win 9).fill (cfg1.grid.coords t) d ((cfg1.win 9).cut (cfg1.grid.coords t) ((dat1 W c).after 9 t)))) ∗ (∃ d, owns (c : Thread nD τ) (ms1_10 t) fullShare ((cfg1.win 10).fill (cfg1.grid.coords t) d ((cfg1.win 10).cut (cfg1.grid.coords t) ((dat1 W c).after 10 t)))) ∗ (∃ d, owns (c : Thread nD τ) (ms1_11 t) fullShare ((cfg1.win 11).fill (cfg1.grid.coords t) d ((cfg1.win 11).cut (cfg1.grid.coords t) ((dat1 W c).after 11 t)))) ∗ (∃ X, ⌜Rl1 W c 12 t X⌝ ∗ owns (c : Thread nD τ) (ms1_12 t) fullShare X))

set_option maxHeartbeats 1600000 in
/-- The body at any point of the second region. -/
theorem sound_body1 (c : Dev nD) (t : Fin cfg1.N) :
    bodyPre1 W c t ⊢ wp frame (wpE (defs₀ (F := F)) Variants.none c none) Set.univ (bodyAt1 t) (fun _ => bodyPost1 W c t) := by
  unfold bodyPre1 bodyAt1
  simp only [before1_0, before1_1, before1_2, before1_3, before1_4, before1_5, before1_6, before1_7, before1_8, before1_9, before1_10, before1_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%Y, -, H12⟩⟩
  iapply (writeRun c (grid1.coords t) _ _ _ _ _ _ _ _ _ _ _ _ _ _ _ _ _ _ _ _ _ _ _ _ _ _ (fblk1 W c 0 t d0) (iblk1 W c 1 t) (iblk1 W c 2 t) (iblk1 W c 3 t) (fblk1 W c 4 t d4) (fblk1 W c 5 t d5) (fblk1 W c 6 t d6) (fblk1 W c 7 t d7) (fblk1 W c 8 t d8) (fblk1 W c 9 t d9) (fblk1 W c 10 t d10) (fblk1 W c 11 t d11) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  iintro ⟨H0, H1, H2, H3, H4, H5, H6, H7, H8, H9, H10, H11, H12⟩
  unfold bodyPost1
  rw [show (dat1 W c).Φ t.succ = (dat1 W c).Φ t.castSucc from rfl,
    show (dat1 W c).owesAt () t.succ = (dat1 W c).owesAt () t.castSucc from rfl,
    after1_1, after1_2, after1_3]
  isplitl [HΦ]; · iexact HΦ
  isplitl [Ho]; · iexact Ho
  isplitl [H0]; · iapply (leave1_0 W c t d0); iexact H0
  isplitl [H1]; · iexact H1
  isplitl [H2]; · iexact H2
  isplitl [H3]; · iexact H3
  isplitl [H4]; · iapply (leave1_4 W c t d4); iexact H4
  isplitl [H5]; · iapply (leave1_5 W c t d5); iexact H5
  isplitl [H6]; · iapply (leave1_6 W c t d6); iexact H6
  isplitl [H7]; · iapply (leave1_7 W c t d7); iexact H7
  isplitl [H8]; · iapply (leave1_8 W c t d8); iexact H8
  isplitl [H9]; · iapply (leave1_9 W c t d9); iexact H9
  isplitl [H10]; · iapply (leave1_10 W c t d10); iexact H10
  isplitl [H11]; · iapply (leave1_11 W c t d11); iexact H11
  iexists _; isplitr; swap; · iexact H12
  ipureintro
  exact ⟨d0, d4, d5, d6, d7, d8, d9, d10, d11, rfl⟩

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation of the second region, at every point. -/
theorem body_obligation1 (c : Dev nD) : Pipeline.BodyObligationRel (dat1 (F := F) W c) (defs₀ (F := F)) Variants.none () Set.univ fgt1 (Rl1 W c) := fun t => by
  rw [bigSep_W1, bigSep_W1, defs₀_row1]
  exact triple_restated (sound_body1 W c t) rfl .rfl fun _ => .rfl

end Cert.KernelIdeal.Gen

end
-- ==== Proof.Run.lean ====
module

public import proofs.«01_k».proof.Proof.Stats
public import proofs.«01_k».proof.Proof.Write
public import Idealize.ShloMosaic.Lib.Pipeline.FrameTail
public import Idealize.ShloMosaic.Lib.Pipeline.RegionsOwned
public import Idealize.ShloMosaic.Lib.Pipeline.RegionsLoop

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf HostSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers after the first region. -/
def U2 (c : Dev nD) : Valuation τ sig (Elt F) := Pipeline.afterRegion (dat0 (V1 m) c) (V1 m c)

/-- The contents of the second region's result. -/
abbrev OutC : Type := (Proc.devRef .tc main_v13 : DevRef τ sig).ty.Contents (Elt F)

/-- Core `c`'s buffers after the second region, its result at `G`. -/
def U3 (c : Dev nD) (G : OutC (F := F)) : Valuation τ sig (Elt F) := Function.update (U2 m c) (Proc.devRef .tc main_v13) G

/-- The two regions' data. -/
def datF (p : Fin 2) (c : Dev nD) : Dat τ (Elt F) Unit ℕ (UR sig nD τ) ℕ (cfgs p) c :=
  match p with
  | ⟨0, _⟩ => dat0 (V1 m) c
  | ⟨1, _⟩ => dat1 (U2 m) c

/-- The same, the second region's result described by its relation. -/
def rdatF (p : Fin 2) (c : Dev nD) : Pipeline.RDat τ (Elt F) Unit ℕ (UR sig nD τ) ℕ (cfgs p) c :=
  match p with
  | ⟨0, _⟩ => (dat0 (V1 m) c).toR
  | ⟨1, _⟩ => (dat1 (U2 m) c).toRRel fgt1 (Rl1 (U2 m) c)

/-- What the second region may leave in its result. -/
def Ends1 (c : Dev nD) (G : OutC (F := F)) : Prop := ((dat1 (U2 m) c).toRRel fgt1 (Rl1 (U2 m) c)).ArrAt 12 cfg1.N G

theorem U2_of (c : Dev nD) (r : Ref sig .tc) (h : ∀ w, r ≠ Pipeline.arrRef spec0 w) : U2 m c (Proc.devRef .tc r) = V1 m c (Proc.devRef .tc r) :=
  Pipeline.afterRegion_of_not_arr (dat0 (V1 m) c) (V1 m c) h
theorem U2_arr (c : Dev nD) (w : Fin cfg0.W) : U2 m c (Proc.devRef .tc (Pipeline.arrRef spec0 w)) = (dat0 (V1 m) c).arrAt w cfg0.N :=
  Pipeline.afterRegion_arr (dat0 (V1 m) c) (V1 m c) launch0.win.arr_inj w
theorem U2_in (c : Dev nD) (w : Fin cfg0.W) (h : (cfg0.win w).isOut = false) : U2 m c (Proc.devRef .tc (Pipeline.arrRef spec0 w)) = V1 m c (Proc.devRef .tc (Pipeline.arrRef spec0 w)) :=
  (U2_arr m c w).trans (((dat0 (V1 m) c).arrAt_in w h _).trans (A0_eq (V1 m) c w))
/-- A buffer that is none of the first region's four results is as the host operations left it. -/
theorem U2_keep (c : Dev nD) (r : Ref sig .tc) (h : r ∉ ([main_v12_0, main_v12_1, main_v12_2, main_v12_3] : List (Ref sig .tc))) :
    U2 m c (Proc.devRef .tc r) = V1 m c (Proc.devRef .tc r) := by
  by_cases hw : ∃ w, r = Pipeline.arrRef spec0 w
  · obtain ⟨w, rfl⟩ := hw
    refine U2_in m c w ?_
    revert h; revert w; decide
  · exact U2_of m c r fun w e => hw ⟨w, e⟩
theorem U3_of (c : Dev nD) (G : OutC (F := F)) (r : Ref sig .tc) (h : r ≠ main_v13) : U3 m c G (Proc.devRef .tc r) = U2 m c (Proc.devRef .tc r) := by
  unfold U3; rw [Function.update_of_ne (StableHlo.devRef_ne_of_ne h)]
theorem U3_v13 (c : Dev nD) (G : OutC (F := F)) : U3 m c G (Proc.devRef .tc main_v13) = G := by
  unfold U3; rw [Function.update_self]

/-- The second region's arrays after it are the buffers with its result in place. -/
theorem ends_arr (c : Dev nD) (A : (w : Fin cfg1.W) → Buf (Elt F) ((cfg1.win w).arr.view.loc (c.tc : Thread nD τ)))
    (hA : ∀ w, (rdatF m 1 c).ArrAt w cfg1.N (A w)) (w : Fin cfg1.W) : A w = U3 m c (A 12) (Proc.devRef .tc (Pipeline.arrRef spec1 w)) := by
  by_cases h : w = 12
  · subst h; exact (U3_v13 m c (A 12)).symm
  · have hin : (cfg1.win w).isOut = false := by revert h; revert w; decide
    have hne : Pipeline.arrRef spec1 w ≠ main_v13 := by revert h; revert w; decide
    have e := hA w
    rw [RDat.ArrAt_in (rdatF m 1 c) w hin] at e
    exact (e.trans (A1_eq (U2 m) c w)).trans (U3_of m c (A 12) _ hne).symm

/-- What rides beside the buffers between the items: the generator register, and nothing owed. -/
def Rest (c : Dev nD) : sProp 𝕄 := iprop((∃ r, prngReg c r) ∗ ∃ W, owes (c : Thread nD τ) (0 : CellTallies nD τ sig Unit) W)

/-- No cell is assigned a level. -/
abbrev LL : GSem nD τ sig → Finset Unit := fun _ => ∅
abbrev lvl : GSem nD τ sig → Unit → ℕ := fun _ _ => 0

/-- The host operations before the first region. -/
def hostA : HostSeg (Ix := Unit) (Name := ℕ) (U := UR sig nD τ) (Lvl := ℕ) (pcfgs (F := F)) defs₀ Variants.none LL lvl :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) Rest

/-- The host operation after the second region, from whatever it left. -/
def hostB : HostSeg (Ix := Unit) (Name := ℕ) (U := UR sig nD τ) (Lvl := ℕ) (pcfgs (F := F)) defs₀ Variants.none LL lvl :=
  HostSeg.ofOpsEx (pcfgs (F := F)) defs₀ Variants.none LL lvl (Γ := fun c => {G : OutC (F := F) // Ends1 m c G}) (Pipeline.ucRefs τ sig) hostOps2
    (fun op h => Pipeline.sub_ucRefs op ((List.forall_iff_forall_mem.mp hostOps2_sub) op h))
    (fun op h => (List.forall_iff_forall_mem.mp hostOps2_fresh) op h) (fun c G => U3 m c G.1) Rest

set_option backward.isDefEq.respectTransparency.types false in
/-- The first region. -/
def reg0 : RDat.RegionSeg (pcfgs (F := F)) adm (rdatF m) () defs₀ Variants.none LL lvl 0 where
  win := launch0.win.to₀
  block_pos := block_pos0
  stage_whole := stage_whole0
  K := PEmpty
  osem := fun k => k.elim
  ho := Pipeline.OwnSemFacts.none _
  hbody c := (body_obligation0 (V1 m) c).toR
  hwaits c := (show (levAts LL lvl : sProp 𝕄) ⊢ BI.emp from by iintro -; iempintro).trans (Pipeline.RDat.cellsWaits_of_owed_zero (Pipeline.pin (pcfgs (F := F)) adm) (rdatF m) () 0 c (fun _ => rfl))
  pre c := iprop(StableHlo.held (c : Thread nD τ) (Pipeline.ucRefs τ sig) (V1 m c) ∗ Rest c)
  post c := iprop(StableHlo.held (c : Thread nD τ) (Pipeline.ucRefs τ sig) (U2 m c) ∗ Rest c)
  X c := iprop(∃ r, prngReg c r)
  Y c := iprop(∃ r, prngReg c r)
  Z c := Pipeline.unscopedRest (Ix := Unit) (Name := ℕ) (U := UR sig nD τ) (Lvl := ℕ) spec0 c (fun b => V1 m c (Proc.devRef .tc b))
  hentry c := by
    rw [Pipeline.ownSems0_none,
      show StableHlo.held (c : Thread nD τ) (Pipeline.ucRefs τ sig) (V1 m c) = unscopedBufs c (fun b => V1 m c (Proc.devRef .tc b))
        from (Pipeline.unscopedBufs_held (Ix := Unit) (Name := ℕ) (U := UR sig nD τ) (Lvl := ℕ) c (V1 m c)).symm]
    have hsplit := Pipeline.arrays_of_unscopedBufs (p := 0) (pcfgs (F := F)) adm (datF m) launch0.win arr_whole0 c
      ((dat0 (V1 m) c).share_full fun _ => rfl) (fun b => V1 m c (Proc.devRef .tc b)) (fun w => A0_eq (V1 m) c w)
    unfold Rest
    iintro ⟨⟨Hub, Hp, HO⟩, -, -⟩
    ihave H := hsplit $$ Hub
    icases H with ⟨Ha, Hrest⟩
    imodintro
    isplitl [Ha]; · iapply (show ((datF m 0 c).arrays (fun x => (datF m 0 c).arrAt x 0) : sProp 𝕄) ⊢ (rdatF m 0 c).arrays (rdatF m 0 c).A from .rfl); iexact Ha
    isplitr
    · unfold Pipeline.prefHeld
      iapply (show (BI.emp : sProp 𝕄) ⊢ bigSep (Finset.univ : Finset (Fin 0)) _ from by rw [show (Finset.univ : Finset (Fin 0)) = ∅ from rfl, BI.bigSep_empty])
      iempintro
    isplitl [HO]
    · icases HO with ⟨%Wd, HO⟩; iexists Wd; isplitr; · ipureintro; exact fun _ _ => Or.inl trivial
      iexact HO
    isplitl [Hp]; · iexact Hp
    iexact Hrest
  hin c := (show _ ⊢ Pipeline.ΦA spec0 c from by
    unfold Pipeline.ΦA; iintro ⟨Hp, -, Hr⟩
    isplitl [Hr] <;> iassumption)
  hout c := (show Pipeline.ΦA spec0 c ⊢ _ from by
    rw [Pipeline.ownSems0_none]; unfold Pipeline.ΦA
    iintro ⟨Hr, Hp⟩
    isplitl [Hp]; · iexact Hp
    isplitr; · iempintro
    iexact Hr)
  hexit c := by
    have hjoin := Pipeline.unscopedBufs_of_arrays (p := 0) (pcfgs (F := F)) adm (Ix := Unit) (Name := ℕ) (U := UR sig nD τ) (Lvl := ℕ)
      launch0.win arr_whole0 c (datF m) ((dat0 (V1 m) c).share_full fun _ => rfl)
      (fun b => V1 m c (Proc.devRef .tc b)) (fun b => U2 m c (Proc.devRef .tc b)) ((dat0 (V1 m) c).arrAt · cfg0.N)
      (fun w => (U2_arr m c w).symm)
      (fun b hb => U2_of m c b fun w h => hb (h ▸ Finset.mem_image.mpr ⟨w, Finset.mem_univ _, rfl⟩))
    rw [show StableHlo.held (c : Thread nD τ) (Pipeline.ucRefs τ sig) (U2 m c) = unscopedBufs c (fun b => U2 m c (Proc.devRef .tc b))
        from (Pipeline.unscopedBufs_held (Ix := Unit) (Name := ℕ) (U := UR sig nD τ) (Lvl := ℕ) c (U2 m c)).symm]
    have hA : ((rdatF m 0 c).arraysAt (Pipeline.pin (pcfgs (F := F)) adm 0).N : sProp 𝕄) ⊢ (dat0 (V1 m) c).arrays ((dat0 (V1 m) c).arrAt · cfg0.N) := by
      exact (dat0 (V1 m) c).toR_arraysAt_post cfg0.N
    unfold Rest
    iintro ⟨Ha, HO, Hp, Hrest⟩
    ihave Ha := hA $$ Ha
    imodintro
    isplitl [Ha Hrest]
    · iapply (show iprop((dat0 (V1 m) c).arrays ((dat0 (V1 m) c).arrAt · cfg0.N) ∗ Pipeline.unscopedRest (Ix := Unit) (Name := ℕ) (U := UR sig nD τ) (Lvl := ℕ) spec0 c (fun b => V1 m c (Proc.devRef .tc b))) ⊢ _ from hjoin)
      isplitl [Ha]; · iexact Ha
      iexact Hrest
    isplitl [Hp]; · iexact Hp
    icases HO with ⟨%W, -, HO⟩; iexists W; iexact HO

set_option backward.isDefEq.respectTransparency.types false in
/-- The second region. -/
def reg1 : RDat.RegionSeg (pcfgs (F := F)) adm (rdatF m) () defs₀ Variants.none LL lvl 1 where
  win := winFacts₀1
  block_pos := block_pos1
  stage_whole := stage_whole1
  K := PEmpty
  osem := fun k => k.elim
  ho := Pipeline.OwnSemFacts.none _
  hbody c := (body_obligation1 (U2 m) c).toRRel
  hwaits c := (show (levAts LL lvl : sProp 𝕄) ⊢ BI.emp from by iintro -; iempintro).trans (Pipeline.RDat.cellsWaits_of_owed_zero (Pipeline.pin (pcfgs (F := F)) adm) (rdatF m) () 1 c (fun _ => rfl))
  pre c := iprop(StableHlo.held (c : Thread nD τ) (Pipeline.ucRefs τ sig) (U2 m c) ∗ Rest c)
  post c := iprop((∃ G : {G : OutC (F := F) // Ends1 m c G}, StableHlo.held (c : Thread nD τ) (Pipeline.ucRefs τ sig) (U3 m c G.1)) ∗ Rest c)
  X c := iprop(∃ r, prngReg c r)
  Y c := iprop(∃ r, prngReg c r)
  Z c := Pipeline.unscopedRest (Ix := Unit) (Name := ℕ) (U := UR sig nD τ) (Lvl := ℕ) spec1 c (fun b => U2 m c (Proc.devRef .tc b))
  hentry c := by
    rw [Pipeline.ownSems0_none,
      show StableHlo.held (c : Thread nD τ) (Pipeline.ucRefs τ sig) (U2 m c) = unscopedBufs c (fun b => U2 m c (Proc.devRef .tc b))
        from (Pipeline.unscopedBufs_held (Ix := Unit) (Name := ℕ) (U := UR sig nD τ) (Lvl := ℕ) c (U2 m c)).symm]
    have hsplit := Pipeline.arrays_of_unscopedBufs_shared (p := 1) (pcfgs (F := F)) adm (datF m) winFacts₀1 sharedIn1 arr_whole1 c
      (fun _ _ => rfl) (fun b => U2 m c (Proc.devRef .tc b)) (fun w => A1_eq (U2 m) c w)
    unfold Rest
    iintro ⟨⟨Hub, Hp, HO⟩, -, -⟩
    ihave H := hsplit $$ Hub
    icases H with ⟨Ha, Hrest⟩
    imodintro
    isplitl [Ha]; · iapply (show ((datF m 1 c).arrays (fun x => (datF m 1 c).arrAt x 0) : sProp 𝕄) ⊢ (rdatF m 1 c).arrays (rdatF m 1 c).A from .rfl); iexact Ha
    isplitr
    · unfold Pipeline.prefHeld
      iapply (show (BI.emp : sProp 𝕄) ⊢ bigSep (Finset.univ : Finset (Fin 0)) _ from by rw [show (Finset.univ : Finset (Fin 0)) = ∅ from rfl, BI.bigSep_empty])
      iempintro
    isplitl [HO]
    · icases HO with ⟨%Wd, HO⟩; iexists Wd; isplitr; · ipureintro; exact fun _ _ => Or.inl trivial
      iexact HO
    isplitl [Hp]; · iexact Hp
    iexact Hrest
  hin c := (show _ ⊢ Pipeline.ΦA spec1 c from by
    unfold Pipeline.ΦA; iintro ⟨Hp, -, Hr⟩
    isplitl [Hr] <;> iassumption)
  hout c := (show Pipeline.ΦA spec1 c ⊢ _ from by
    rw [Pipeline.ownSems0_none]; unfold Pipeline.ΦA
    iintro ⟨Hr, Hp⟩
    isplitl [Hp]; · iexact Hp
    isplitr; · iempintro
    iexact Hr)
  hexit c := by
    have hA : ((rdatF m 1 c).arraysAt (Pipeline.pin (pcfgs (F := F)) adm 1).N : sProp 𝕄) ⊢ iprop(∃ A : (w : Fin cfg1.W) → Buf (Elt F) ((cfg1.win w).arr.view.loc (c.tc : Thread nD τ)),
        ⌜∀ w, (rdatF m 1 c).ArrAt w cfg1.N (A w)⌝ ∗ (dat1 (U2 m) c).arrays A) := by
      unfold RDat.arraysAt Dat.arrays
      refine (BI.bigSep_exists_pi Finset.univ _).trans ?_
      iintro ⟨%A, H⟩
      ihave H' := (BI.bigSep_pure_sep Finset.univ (fun w => (rdatF m 1 c).ArrAt w cfg1.N (A w)) _) $$ H
      icases H' with ⟨%hA, H⟩
      iexists A
      isplitr
      · ipureintro; exact fun w => hA w (Finset.mem_univ w)
      iexact H
    unfold Rest
    iintro ⟨Ha, HO, Hp, Hrest⟩
    ihave Ha := hA $$ Ha
    icases Ha with ⟨%A, %hA, Ha⟩
    have hG : Ends1 m c (A 12) := hA 12
    have hF : ∀ w : Fin cfg1.W, A w = U3 m c (A 12) (Proc.devRef .tc (Pipeline.arrRef spec1 w)) := fun w => ends_arr m c A hA w
    have hjoin := Pipeline.unscopedBufs_of_arrays_shared (p := 1) (pcfgs (F := F)) adm (Ix := Unit) (Name := ℕ) (U := UR sig nD τ) (Lvl := ℕ)
      winFacts₀1 sharedIn1 arr_whole1 c (datF m) (fun _ _ => rfl)
      (fun b => U2 m c (Proc.devRef .tc b)) (fun b => U3 m c (A 12) (Proc.devRef .tc b)) A hF
      (fun b hb => U3_of m c (A 12) b fun e => hb (e ▸ Finset.mem_image.mpr ⟨12, Finset.mem_univ _, rfl⟩))
    rw [show unscopedBufs c (fun b => U3 m c (A 12) (Proc.devRef .tc b)) = StableHlo.held (c : Thread nD τ) (Pipeline.ucRefs τ sig) (U3 m c (A 12))
        from (Pipeline.unscopedBufs_held (Ix := Unit) (Name := ℕ) (U := UR sig nD τ) (Lvl := ℕ) c (U3 m c (A 12)))] at hjoin
    imodintro
    isplitl [Ha Hrest]
    · iexists (⟨A 12, hG⟩ : {G : OutC (F := F) // Ends1 m c G})
      iapply (show iprop((dat1 (U2 m) c).arrays A ∗ Pipeline.unscopedRest (Ix := Unit) (Name := ℕ) (U := UR sig nD τ) (Lvl := ℕ) spec1 c (fun b => U2 m c (Proc.devRef .tc b))) ⊢ _ from hjoin)
      isplitl [Ha]; · iexact Ha
      iexact Hrest
    isplitl [Hp]; · iexact Hp
    icases HO with ⟨%W, -, HO⟩; iexists W; iexact HO

set_option backward.isDefEq.respectTransparency.types false in
/-- Every weakly fair execution of @main terminates; at the end each argument is as launched, every semaphore counter is
    zero, and the result is the last host operation's over contents the second region may leave. -/
theorem run_ends : θ_run defs (onTc (τ := τ) (main (F := F))) ⟨m, fun _ => 0, ρ⟩ (fun r => (∀ c : Dev nD,
      r.2.mem ((c.tc : Thread nD τ).loc main_arg0) = m ((c.tc : Thread nD τ).loc main_arg0) ∧
r.2.mem ((c.tc : Thread nD τ).loc main_arg1) = m ((c.tc : Thread nD τ).loc main_arg1) ∧
r.2.mem ((c.tc : Thread nD τ).loc main_arg2) = m ((c.tc : Thread nD τ).loc main_arg2) ∧
r.2.mem ((c.tc : Thread nD τ).loc main_arg3) = m ((c.tc : Thread nD τ).loc main_arg3) ∧
r.2.mem ((c.tc : Thread nD τ).loc main_arg4) = m ((c.tc : Thread nD τ).loc main_arg4) ∧
r.2.mem ((c.tc : Thread nD τ).loc main_arg5) = m ((c.tc : Thread nD τ).loc main_arg5) ∧
r.2.mem ((c.tc : Thread nD τ).loc main_arg6) = m ((c.tc : Thread nD τ).loc main_arg6) ∧
r.2.mem ((c.tc : Thread nD τ).loc main_arg7) = m ((c.tc : Thread nD τ).loc main_arg7) ∧
r.2.mem ((c.tc : Thread nD τ).loc main_arg8) = m ((c.tc : Thread nD τ).loc main_arg8) ∧
r.2.mem ((c.tc : Thread nD τ).loc main_arg9) = m ((c.tc : Thread nD τ).loc main_arg9) ∧
r.2.mem ((c.tc : Thread nD τ).loc main_arg10) = m ((c.tc : Thread nD τ).loc main_arg10) ∧
      ∃ G : OutC (F := F), Ends1 m c G ∧ r.2.mem ((c.tc : Thread nD τ).loc main_v14) = StableHlo.after hostOps2 (U3 m c G) (Proc.devRef .tc main_v14))
      ∧ r.2.sem = fun _ => 0) := by
  refine Pipeline.RDat.θ_run_regions_kit_dev_sems (pcfgs (F := F)) adm (rdatF m) () cellOf_inj emb₁ defs₀ Variants.none LL lvl m ρ main
    (fun c => [.host (hostA m), .region (reg0 m), .region (reg1 m), .host (hostB m)])
    (fun c Q => by
      rewrite [main_chain c, RDat.Seg.run_eq_chain,
        show ([RDat.Seg.host (hostA m), .region (reg0 m), .region (reg1 m), .host (hostB m)] : List (RDat.Seg (pcfgs (F := F)) adm (rdatF m) () defs₀ Variants.none LL lvl)).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [RDat.Seg.pipes_host, RDat.Seg.pipes_region, RDat.Seg.pipes_nil]; decide) 0 (fun _ _ => rfl)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => iprop(∃ G : {G : OutC (F := F) // Ends1 m c G}, StableHlo.held (c : Thread nD τ) (Pipeline.ucRefs τ sig) (StableHlo.after hostOps2 (U3 m c G.1))))
    (hch := fun c => ⟨.rfl, .rfl, .rfl, .rfl, by
      show iprop((∃ G : {G : OutC (F := F) // Ends1 m c G}, StableHlo.held (c : Thread nD τ) (Pipeline.ucRefs τ sig) (StableHlo.after hostOps2 (U3 m c G.1))) ∗ Rest c) ⊢ _
      unfold Rest
      exact sep_mono .rfl (by iintro ⟨-, HO⟩; iexact HO)⟩)
    (hinit := by
      refine Pipeline.initEach LL lvl fun c => ?_
      rw [show unscopedBufs c (fun b => m ((c.tc : Thread nD τ).loc b)) = StableHlo.held (c : Thread nD τ) (Pipeline.ucRefs τ sig) (V0 m c)
          from Pipeline.unscopedBufs_held (Ix := Unit) (Name := ℕ) (U := UR sig nD τ) (Lvl := ℕ) c (V0 m c)]
      unfold Rest
      iintro ⟨⟨Hh, -, HO, -, Hp, -⟩, -⟩
      imodintro
      isplitl [Hh]; · iexact Hh
      isplitl [Hp]; · iexists _; iexact Hp
      iexists _; iexact HO)
    (QY := fun c s => s.mem ((c.tc : Thread nD τ).loc main_arg0) = m ((c.tc : Thread nD τ).loc main_arg0) ∧
s.mem ((c.tc : Thread nD τ).loc main_arg1) = m ((c.tc : Thread nD τ).loc main_arg1) ∧
s.mem ((c.tc : Thread nD τ).loc main_arg2) = m ((c.tc : Thread nD τ).loc main_arg2) ∧
s.mem ((c.tc : Thread nD τ).loc main_arg3) = m ((c.tc : Thread nD τ).loc main_arg3) ∧
s.mem ((c.tc : Thread nD τ).loc main_arg4) = m ((c.tc : Thread nD τ).loc main_arg4) ∧
s.mem ((c.tc : Thread nD τ).loc main_arg5) = m ((c.tc : Thread nD τ).loc main_arg5) ∧
s.mem ((c.tc : Thread nD τ).loc main_arg6) = m ((c.tc : Thread nD τ).loc main_arg6) ∧
s.mem ((c.tc : Thread nD τ).loc main_arg7) = m ((c.tc : Thread nD τ).loc main_arg7) ∧
s.mem ((c.tc : Thread nD τ).loc main_arg8) = m ((c.tc : Thread nD τ).loc main_arg8) ∧
s.mem ((c.tc : Thread nD τ).loc main_arg9) = m ((c.tc : Thread nD τ).loc main_arg9) ∧
s.mem ((c.tc : Thread nD τ).loc main_arg10) = m ((c.tc : Thread nD τ).loc main_arg10) ∧
      ∃ G : OutC (F := F), Ends1 m c G ∧ s.mem ((c.tc : Thread nD τ).loc main_v14) = StableHlo.after hostOps2 (U3 m c G) (Proc.devRef .tc main_v14))
    (hfin := fun c s' => ?_) (hQ := fun _ h hz => ⟨h, funext fun g => hz g (.inr (regions_no_unscoped g.2))⟩)
  unfold StableHlo.held
  iintro ⟨⟨%G, Hh⟩, HSI⟩
  ihave Hr := (pointsTo_read_all (Pipeline.ucRefs τ sig) (fun b => ((c : Thread nD τ).1, b)) (StableHlo.after hostOps2 (U3 m c G.1)) s') $$ [Hh HSI]
  · isplitl [Hh] <;> iassumption
  icases Hr with ⟨%h, HSI⟩
  imodintro
  isplitr
  · ipureintro
    have keep : ∀ r : Ref sig .tc, r.isScoped = false → r ∉ hostOps2_W → r ≠ main_v13 → r ∉ ([main_v12_0, main_v12_1, main_v12_2, main_v12_3] : List (Ref sig .tc)) → r ∉ hostOps0_W →
        s'.mem.mem ((c.tc : Thread nD τ).loc r) = m ((c.tc : Thread nD τ).loc r) := fun r hs h2 h13 h12 h0 =>
      (h (Proc.devRef .tc r) (Pipeline.devRef_mem_ucRefs hs)).trans <|
        (StableHlo.after_of_writes_sub hostOps2 _ hostOps2_writes h2).trans <| (U3_of m c G.1 r h13).trans <| (U2_keep m c r h12).trans <| (V1_of m c r h0).trans rfl
    exact ⟨keep main_arg0 (by decide) (by decide) (by decide) (by decide) (by decide), keep main_arg1 (by decide) (by decide) (by decide) (by decide) (by decide), keep main_arg2 (by decide) (by decide) (by decide) (by decide) (by decide), keep main_arg3 (by decide) (by decide) (by decide) (by decide) (by decide), keep main_arg4 (by decide) (by decide) (by decide) (by decide) (by decide), keep main_arg5 (by decide) (by decide) (by decide) (by decide) (by decide), keep main_arg6 (by decide) (by decide) (by decide) (by decide) (by decide), keep main_arg7 (by decide) (by decide) (by decide) (by decide) (by decide), keep main_arg8 (by decide) (by decide) (by decide) (by decide) (by decide), keep main_arg9 (by decide) (by decide) (by decide) (by decide) (by decide), keep main_arg10 (by decide) (by decide) (by decide) (by decide) (by decide),
      G.1, G.2, h (Proc.devRef .tc main_v14) (Pipeline.devRef_mem_ucRefs (by decide))⟩
  · iexact HSI

end Cert.KernelIdeal.Gen

end
-- ==== Proof.Frames.lean ====
module

public import proofs.«01_k».proof.Defs
public import proofs.«01_k».proof.Proof.Run
public import proofs.«01_k».proof.Proof.KRun
public import proofs.«01_k».proof.Proof.Gen.ReferenceIdeal.Run

@[expose] public section

noncomputable section

namespace Cert.Proof

open Idealize.ShloMosaic Idealize.SL.Sem

/-- The kernel terminates, leaves its arguments as they were, and every semaphore counter at zero. -/
theorem frame_kernel : Cert.quiescent_Kernel (hKernel := Cert.Kernel.Gen.facts) := fun m ρ _ =>
  (θ_run (Cert.Kernel.defs (F := Bits)) _ _).mono (fun _ h => ⟨fun c =>
      let ⟨a0, a1, a2, a3, a4, a5, a6, a7, a8, a9, a10, _⟩ := h.1 c
      ⟨a0, a1, a2, a3, a4, a5, a6, a7, a8, a9, a10⟩, h.2⟩)
    (Cert.Kernel.Gen.run_ends (F := Bits) m ρ)

/-- The same of the kernel read at the ideal numbers. -/
theorem frame_kernelIdeal : Cert.quiescent_KernelIdeal (hKernelIdeal := Cert.KernelIdeal.Gen.facts) := fun m ρ _ =>
  (θ_run (Cert.KernelIdeal.defs (F := Ideal)) _ _).mono (fun _ h => ⟨fun c =>
      let ⟨a0, a1, a2, a3, a4, a5, a6, a7, a8, a9, a10, _⟩ := h.1 c
      ⟨a0, a1, a2, a3, a4, a5, a6, a7, a8, a9, a10⟩, h.2⟩)
    (Cert.KernelIdeal.Gen.run_ends (F := Ideal) m ρ)

/-- The reference terminates and leaves its arguments as they were; it declares no semaphore. -/
theorem frame_referenceIdeal : Cert.quiescent_ReferenceIdeal (hReferenceIdeal := Cert.ReferenceIdeal.Gen.facts) := fun m ρ _ =>
  (θ_run (Cert.ReferenceIdeal.defs (F := Ideal)) _ _).mono (fun r h => ⟨fun c => (h c).2,
      Idealize.ShloMosaic.sem_eq_zero_of_no_sems (by decide) r.2⟩)
    (Cert.ReferenceIdeal.Value.run (F := Ideal) m ρ)

end Cert.Proof

end
-- ==== Proof.Softmax.lean ====
module

public import Idealize.ShloMosaic.Lib.Pointwise

@[expose] public section

noncomputable section

namespace Cert.Soft

open Idealize.ShloMosaic

/-- The extended real is an ordinary real number. -/
def IsR (x : EReal) : Prop := ∃ r : ℝ, x = (r : EReal)

theorem IsR.coe (r : ℝ) : IsR (r : EReal) := ⟨r, rfl⟩
theorem IsR.add {x y : EReal} (hx : IsR x) (hy : IsR y) : IsR (x + y) := by
  obtain ⟨a, rfl⟩ := hx
  obtain ⟨b, rfl⟩ := hy
  exact ⟨a + b, (EReal.coe_add a b).symm⟩
theorem IsR.mul {x y : EReal} (hx : IsR x) (hy : IsR y) : IsR (x * y) := by
  obtain ⟨a, rfl⟩ := hx
  obtain ⟨b, rfl⟩ := hy
  exact ⟨a * b, (EReal.coe_mul a b).symm⟩
theorem IsR.max {x y : EReal} (hx : IsR x) (hy : IsR y) : IsR (max x y) := by
  rcases max_choice x y with h | h <;> rw [h] <;> assumption
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]
theorem IsR.sum {ι : Type} (s : Finset ι) {f : ι → EReal} (h : ∀ i, IsR (f i)) : IsR (∑ i ∈ s, f i) := by
  choose g hg using h
  exact ⟨∑ i ∈ s, g i, by rw [← sum_coe]; exact Finset.sum_congr rfl fun i _ => hg i⟩

/-- The largest of finitely many extended reals. -/
def top {n : ℕ} (z : Fin n → EReal) : EReal := Finset.univ.fold max ⊥ z
/-- The exponentials of the entries taken from `M`, summed. -/
def mass {n : ℕ} (z : Fin n → EReal) (M : EReal) : EReal := ∑ k, Ideal.exp (z k - M)
/-- The softmax as the formula states it: one quotient. -/
def soft {n : ℕ} (z : Fin n → EReal) (i : Fin n) : EReal := Ideal.div (Ideal.exp (z i - top z)) (mass z (top z))
/-- The softmax as a product with the reciprocal of the sum. -/
def softInv {n : ℕ} (z : Fin n → EReal) (i : Fin n) : EReal := Ideal.exp (z i - top z) * Ideal.div 1 (mass z (top z))
/-- One affine coordinate: a row times a column plus the bias. -/
def aff {K : ℕ} (x w : Fin K → EReal) (b : EReal) : EReal := ∑ k, x k * w k + b

theorem IsR.aff {K : ℕ} {x w : Fin K → EReal} {b : EReal} (hx : ∀ k, IsR (x k)) (hw : ∀ k, IsR (w k)) (hb : IsR b) : IsR (aff x w b) :=
  (IsR.sum _ fun k => (hx k).mul (hw k)).add hb

theorem top_isR {n : ℕ} [NeZero n] (z : Fin n → EReal) (h : ∀ i, IsR (z i)) : IsR (top z) := by
  classical
  have key : ∀ s : Finset (Fin n), s.Nonempty → IsR (s.fold max ⊥ z) := by
    intro s hs
    induction hs using Finset.Nonempty.cons_induction with
    | singleton a => simpa using h a
    | cons a s ha hs ih => rw [Finset.fold_cons]; exact (h a).max ih
  exact key _ ⟨0, Finset.mem_univ _⟩

theorem exp_sub_coe (a b : ℝ) : Ideal.exp ((a : EReal) - (b : EReal)) = ((Real.exp (a - b) : ℝ) : EReal) := by
  rw [← EReal.coe_sub, Ideal.exp_coe]

theorem mass_coe {n : ℕ} (a : Fin n → ℝ) (b : ℝ) : mass (fun i => (a i : EReal)) b = ((∑ k, Real.exp (a k - b) : ℝ) : EReal) := by
  unfold mass
  rw [← sum_coe]
  exact Finset.sum_congr rfl fun k _ => exp_sub_coe _ _

theorem sum_exp_pos {n : ℕ} [NeZero n] (a : Fin n → ℝ) (b : ℝ) : 0 < ∑ k, Real.exp (a k - b) :=
  Finset.sum_pos (fun k _ => Real.exp_pos _) ⟨0, Finset.mem_univ _⟩

/-- With finite entries the product with the reciprocal is the quotient. -/
theorem softInv_eq {n : ℕ} [NeZero n] (z : Fin n → EReal) (h : ∀ i, IsR (z i)) (i : Fin n) : softInv z i = soft z i := by
  obtain ⟨M, hM⟩ := top_isR z h
  choose a ha using h
  obtain rfl : z = fun i => (a i : EReal) := funext ha
  unfold softInv soft
  rw [hM, mass_coe, Ideal.div_coe (sum_exp_pos a M).ne', Ideal.div_coe (sum_exp_pos a M).ne', one_mul]

theorem soft_isR {n : ℕ} [NeZero n] (z : Fin n → EReal) (h : ∀ i, IsR (z i)) (i : Fin n) : IsR (soft z i) := by
  obtain ⟨M, hM⟩ := top_isR z h
  choose a ha using h
  obtain rfl : z = fun i => (a i : EReal) := funext ha
  unfold soft
  rw [hM, mass_coe, Ideal.div_coe (sum_exp_pos a M).ne', exp_sub_coe, ← EReal.coe_mul]
  exact IsR.coe _

/-- Whatever finite number is taken from every entry, the gated softmax is the same. -/
theorem gated_eq {n : ℕ} [NeZero n] (z : Fin n → EReal) (h : ∀ i, IsR (z i)) (m g : EReal) (hm : IsR m) (hg : IsR g) (i : Fin n) :
    Ideal.exp (z i - m) * Ideal.div g (mass z m) = soft z i * g := by
  obtain ⟨M, hM⟩ := top_isR z h
  choose a ha using h
  obtain rfl : z = fun i => (a i : EReal) := funext ha
  obtain ⟨r, rfl⟩ := hm
  obtain ⟨t, rfl⟩ := hg
  unfold soft
  rw [hM, mass_coe, mass_coe, Ideal.div_coe (sum_exp_pos a M).ne', Ideal.div_coe (sum_exp_pos a r).ne', exp_sub_coe, exp_sub_coe]
  rw [← EReal.coe_mul, ← EReal.coe_mul, ← EReal.coe_mul, ← EReal.coe_mul]
  congr 1
  have e : ∀ x, Real.exp (x - r) = Real.exp (x - M) * Real.exp (M - r) := fun x => by rw [← Real.exp_add]; congr 1; ring
  have hs : ∑ k, Real.exp (a k - r) = (∑ k, Real.exp (a k - M)) * Real.exp (M - r) := by
    rw [Finset.sum_mul]; exact Finset.sum_congr rfl fun k _ => e _
  have h1 := (sum_exp_pos a M).ne'
  have h2 := (Real.exp_pos (M - r)).ne'
  rw [hs, e]
  field_simp

/-- Running maximum and running sum before chunk `k`, the maximum started at `neg`. -/
def run {B : ℕ} (neg : EReal) (z : ℕ → Fin B → EReal) : ℕ → EReal × EReal
  | 0 => (neg, 0)
  | k + 1 => (max (run neg z k).1 (top (z k)),
      (run neg z k).2 * Ideal.exp ((run neg z k).1 - max (run neg z k).1 (top (z k))) + mass (z k) (max (run neg z k).1 (top (z k))))

/-- The running sum is the sum of the chunks so far, taken from the running maximum, which is finite. -/
theorem run_spec {B : ℕ} [NeZero B] (neg : EReal) (hneg : IsR neg) (z : ℕ → Fin B → EReal) (h : ∀ j i, IsR (z j i)) (k : ℕ) :
    IsR (run neg z k).1 ∧ (run neg z k).2 = ∑ j ∈ Finset.range k, mass (z j) (run neg z k).1 := by
  induction k with
  | zero => exact ⟨hneg, by simp [run]⟩
  | succ k ih =>
    obtain ⟨⟨r, hr⟩, hs⟩ := ih
    obtain ⟨q, hq⟩ := (IsR.coe r).max (top_isR (z k) (h k))
    have hq1 : (run neg z (k + 1)).1 = q := by rw [← hq, ← hr]; rfl
    refine ⟨⟨q, hq1⟩, ?_⟩
    rw [hq1]
    show (run neg z k).2 * Ideal.exp ((run neg z k).1 - max (run neg z k).1 (top (z k))) + mass (z k) (max (run neg z k).1 (top (z k))) = _
    rw [hs, hr, hq, Finset.sum_range_succ]
    congr 1
    choose a ha using h
    obtain rfl : z = fun j i => (a j i : EReal) := funext fun j => funext fun i => ha j i
    simp only [mass_coe]
    rw [sum_coe, exp_sub_coe, ← EReal.coe_mul, sum_coe]
    congr 1
    rw [Finset.sum_mul]
    refine Finset.sum_congr rfl fun j _ => ?_
    rw [Finset.sum_mul]
    refine Finset.sum_congr rfl fun i _ => ?_
    rw [← Real.exp_add]
    congr 1
    ring

/-- The gate over the running sum of all the chunks gates the whole softmax. -/
theorem run_gated {n B J : ℕ} [NeZero n] [NeZero B] (hn : J * B = n) (neg : EReal) (hneg : IsR neg) (z : Fin n → EReal) (h : ∀ i, IsR (z i))
    (zc : ℕ → Fin B → EReal) (hzc : ∀ (j : Fin J) (t : Fin B) (hj : j.val * B + t.val < n), zc j t = z ⟨j.val * B + t.val, hj⟩) (hzr : ∀ j t, IsR (zc j t))
    (g : EReal) (hg : IsR g) (i : Fin n) :
    Ideal.exp (z i - (run neg zc J).1) * Ideal.div g (run neg zc J).2 = soft z i * g := by
  obtain ⟨hr, hs⟩ := run_spec neg hneg zc hzr J
  have : (run neg zc J).2 = mass z (run neg zc J).1 := by
    rw [hs, Finset.sum_range]
    unfold mass
    rw [Fin.sum_univ_tiles J B hn]
    refine Finset.sum_congr rfl fun j _ => Finset.sum_congr rfl fun t _ => ?_
    rw [hzc]
  rw [this]
  exact gated_eq z h _ g hr hg i

/-- The pattern of minus infinity. -/
theorem negInf_eq : Ideal.ofBits .f32 0xFF800000#32 = (⊥ : EReal) := by simp [Ideal.ofBits, Ideal.ieee]
/-- The pattern of the starting maximum is a finite number. -/
theorem neg_isR : IsR (Ideal.ofBits .f32 0xF149F2CA#32) := by
  simp only [Ideal.ofBits, Ideal.ieee]
  norm_num
  exact ⟨_, rfl⟩

end Cert.Soft

end
-- ==== Proof.Spec.lean ====
module

public import proofs.«01_k».proof.Proof.Softmax

@[expose] public section

noncomputable section

namespace Cert.Soft

open Idealize.ShloMosaic

/-- Arrays of extended reals with one, two and three axes. -/
abbrev A1 (a : ℕ) : Type := (⟨1, ![a]⟩ : Shape).Idx → EReal
abbrev A2 (a b : ℕ) : Type := (⟨2, ![a, b]⟩ : Shape).Idx → EReal
abbrev A3 (a b c : ℕ) : Type := (⟨3, ![a, b, c]⟩ : Shape).Idx → EReal

/-- Row `s` of the input through one dense layer. -/
def dense {D : ℕ} (x : A3 1 2048 768) (w : A2 768 D) (b : A1 D) (s : Fin 2048) : Fin D → EReal :=
  fun d => aff (fun h => x (ix3 0 s h)) (fun h => w (ix2 h d)) (b (ix1 d))
/-- The logits of one tail: the projection through a second dense layer. -/
def logits {D N : ℕ} (x : A3 1 2048 768) (pw : A2 768 D) (pb : A1 D) (w : A2 D N) (b : A1 N) (s : Fin 2048) : Fin N → EReal :=
  fun v => aff (dense x pw pb s) (fun q => w (ix2 q v)) (b (ix1 v))

/-- The adaptive softmax of row `s` at word `v`. -/
def word (x : A3 1 2048 768) (hw : A2 768 4002) (hb : A1 4002) (p1 : A2 768 192) (q1 : A1 192) (w1 : A2 192 16000) (b1 : A1 16000)
    (p2 : A2 768 48) (q2 : A1 48) (w2 : A2 48 80000) (b2 : A1 80000) (s : Fin 2048) (v : Fin 100000) : EReal :=
  if h2 : v.val < 20000 then
    if h1 : v.val < 4000 then soft (dense x hw hb s) ⟨v.val, by omega⟩
    else soft (logits x p1 q1 w1 b1 s) ⟨v.val - 4000, by omega⟩ * soft (dense x hw hb s) 4000
  else soft (logits x p2 q2 w2 b2 s) ⟨v.val - 20000, by omega⟩ * soft (dense x hw hb s) 4001

theorem dense_isR {D : ℕ} {x : A3 1 2048 768} {w : A2 768 D} {b : A1 D} (hx : ∀ i, IsR (x i)) (hw : ∀ i, IsR (w i)) (hb : ∀ i, IsR (b i))
    (s : Fin 2048) (d : Fin D) : IsR (dense x w b s d) := IsR.aff (fun _ => hx _) (fun _ => hw _) (hb _)
theorem logits_isR {D N : ℕ} {x : A3 1 2048 768} {pw : A2 768 D} {pb : A1 D} {w : A2 D N} {b : A1 N} (hx : ∀ i, IsR (x i)) (hpw : ∀ i, IsR (pw i))
    (hpb : ∀ i, IsR (pb i)) (hw : ∀ i, IsR (w i)) (hb : ∀ i, IsR (b i)) (s : Fin 2048) (v : Fin N) : IsR (logits x pw pb w b s v) :=
  IsR.aff (fun _ => dense_isR hx hpw hpb s _) (fun _ => hw _) (hb _)

theorem aff_comm {K : ℕ} (x w : Fin K → EReal) (b : EReal) : aff x w b = aff w x b := by
  unfold aff; congr 1; exact Finset.sum_congr rfl fun k _ => mul_comm _ _

end Cert.Soft

end
-- ==== Proof.StatsValue.lean ====
module

public import proofs.«01_k».proof.Proof.StatsPayload
public import proofs.«01_k».proof.Proof.Spec

@[expose] public section

set_option maxRecDepth 16384

noncomputable section

namespace Cert.KernelIdeal.Gen

open Idealize.ShloMosaic Idealize.ShloMosaic.TcCoe Cert.Soft

/-- The finite number the running maxima start at. -/
abbrev neg : EReal := Ideal.ofBits .f32 0xF149F2CA#32

/-- One column of an affine layer in the kernel's layout: weights' row `d`, the input block's row `r`. -/
def affB {D : ℕ} (x0 : A3 1 256 768) (w : A2 D 768) (b : A2 D 1) (r : Fin 256) : Fin D → EReal :=
  fun d => aff (fun h => w (ix2 d h)) (fun h => x0 (ix3 0 r h)) (b (ix2 d 0))

theorem affB_fun {D : ℕ} (x0 : A3 1 256 768) (w : A2 D 768) (b : A2 D 1) (r : Fin 256) :
    affB x0 w b r = fun d => ∑ h, w (ix2 d h) * x0 (ix3 0 r h) + b (ix2 d 0) := rfl

theorem pay13_apply (x0 : FVec Ideal S1x256x768 .f32) (h : Fin 768) (r : Fin 256) : k0_pay13 (F := Ideal) x0 (ix2 h r) = x0 (ix3 0 r h) := by
  pointwise [k0_pay13]
theorem pay14_apply (x0 : FVec Ideal S1x256x768 .f32) (x1 : FVec Ideal S4002x768 .f32) (x2 : FVec Ideal S4002x1 .f32) (d : Fin 4002) (r : Fin 256) :
    k0_pay14 (F := Ideal) x0 x1 x2 (ix2 d r) = softInv (affB x0 x1 x2 r) d := by
  pointwise [k0_pay14, k0_pay13]
  simp only [negInf_eq, softInv, mass, top, affB_fun]
theorem pay15_apply (x0 : FVec Ideal S1x256x768 .f32) (x1 : FVec Ideal S4002x768 .f32) (x2 : FVec Ideal S4002x1 .f32) (r : Fin 256) :
    k0_pay15 (F := Ideal) x0 x1 x2 (ix2 0 r) = softInv (affB x0 x1 x2 r) 4000 := by
  pointwise [k0_pay15, k0_pay14, k0_pay13]
  simp only [negInf_eq, softInv, mass, top, affB_fun]
theorem pay16_apply (x0 : FVec Ideal S1x256x768 .f32) (x1 : FVec Ideal S4002x768 .f32) (x2 : FVec Ideal S4002x1 .f32) (r : Fin 256) :
    k0_pay16 (F := Ideal) x0 x1 x2 (ix2 0 r) = softInv (affB x0 x1 x2 r) 4001 := by
  pointwise [k0_pay16, k0_pay14, k0_pay13]
  simp only [negInf_eq, softInv, mass, top, affB_fun]
theorem pay17_apply (x0 : FVec Ideal S1x256x768 .f32) (x1 : FVec Ideal S192x768 .f32) (x2 : FVec Ideal S192x1 .f32) (d : Fin 192) (r : Fin 256) :
    k0_pay17 (F := Ideal) x0 x1 x2 (ix2 d r) = affB x0 x1 x2 r d := by
  pointwise [k0_pay17, k0_pay13]
  simp only [affB_fun]
theorem pay1_apply (v3 : FVec Ideal S768x256 .bf16) (x1 : FVec Ideal S48x768 .f32) (x2 : FVec Ideal S48x1 .f32) (d : Fin 48) (r : Fin 256) :
    k0_pay1 (F := Ideal) v3 x1 x2 (ix2 d r) = aff (fun h => x1 (ix2 d h)) (fun h => v3 (ix2 h r)) (x2 (ix2 d 0)) := by
  pointwise [k0_pay1]
  simp only [aff]
theorem pay12_row0 (a b : FVec Ideal S1x256 .f32) (m1 s1 m2 s2 : FVec Ideal S256x1 .f32) (r : Fin 256) :
    k0_pay12 (F := Ideal) a b m1 s1 m2 s2 (ix2 0 r) = m1 (ix2 r 0) := by
  pointwise [k0_pay12]
theorem pay12_row1 (a b : FVec Ideal S1x256 .f32) (m1 s1 m2 s2 : FVec Ideal S256x1 .f32) (r : Fin 256) :
    k0_pay12 (F := Ideal) a b m1 s1 m2 s2 (ix2 1 r) = Ideal.div (a (ix2 0 r)) (s1 (ix2 r 0)) := by
  pointwise [k0_pay12]
theorem pay12_row2 (a b : FVec Ideal S1x256 .f32) (m1 s1 m2 s2 : FVec Ideal S256x1 .f32) (r : Fin 256) :
    k0_pay12 (F := Ideal) a b m1 s1 m2 s2 (ix2 2 r) = m2 (ix2 r 0) := by
  pointwise [k0_pay12]
theorem pay12_row3 (a b : FVec Ideal S1x256 .f32) (m1 s1 m2 s2 : FVec Ideal S256x1 .f32) (r : Fin 256) :
    k0_pay12 (F := Ideal) a b m1 s1 m2 s2 (ix2 3 r) = Ideal.div (b (ix2 0 r)) (s2 (ix2 r 0)) := by
  pointwise [k0_pay12]

/-- The first tail's logits in one chunk, in the kernel's layout. -/
def chunkZ {D : ℕ} (p : A2 D 256) (W : A2 D 3200) (b : A2 1 3200) (r : Fin 256) : Fin 3200 → EReal :=
  fun t => aff (fun q => p (ix2 q r)) (fun q => W (ix2 q t)) (b (ix2 0 t))

theorem chunkZ_fun {D : ℕ} (p : A2 D 256) (W : A2 D 3200) (b : A2 1 3200) (r : Fin 256) :
    chunkZ p W b r = fun t => ∑ q, p (ix2 q r) * W (ix2 q t) + b (ix2 0 t) := rfl

theorem pay5_apply (p : FVec Ideal S192x256 .bf16) (m : FVec Ideal S256x1 .f32) (W : FVec Ideal S192x3200 .f32) (b : FVec Ideal S1x3200 .f32) (r : Fin 256) :
    k0_pay5 (F := Ideal) p m W b (ix2 r 0) = max (m (ix2 r 0)) (top (chunkZ p W b r)) := by
  pointwise [k0_pay5, k0_pay4]
  simp only [negInf_eq, top, chunkZ_fun]
theorem pay6_apply (p : FVec Ideal S192x256 .bf16) (m s : FVec Ideal S256x1 .f32) (W : FVec Ideal S192x3200 .f32) (b : FVec Ideal S1x3200 .f32) (r : Fin 256) :
    k0_pay6 (F := Ideal) p m s W b (ix2 r 0) = s (ix2 r 0) * Ideal.exp (m (ix2 r 0) - max (m (ix2 r 0)) (top (chunkZ p W b r)))
      + mass (chunkZ p W b r) (max (m (ix2 r 0)) (top (chunkZ p W b r))) := by
  pointwise [k0_pay6, k0_pay5, k0_pay4]
  simp only [negInf_eq, mass, top, chunkZ_fun]
theorem pay10_apply (v3 : FVec Ideal S768x256 .bf16) (x1 : FVec Ideal S48x768 .f32) (x2 : FVec Ideal S48x1 .f32) (m : FVec Ideal S256x1 .f32) (W : FVec Ideal S48x3200 .f32) (b : FVec Ideal S1x3200 .f32) (r : Fin 256) :
    k0_pay10 (F := Ideal) v3 x1 x2 m W b (ix2 r 0) = max (m (ix2 r 0)) (top (chunkZ (k0_pay1 v3 x1 x2) W b r)) := by
  simp only [chunkZ_fun, pay1_apply, aff]
  pointwise [k0_pay10, k0_pay9, k0_pay1]
  simp only [negInf_eq, top]
theorem pay11_apply (v3 : FVec Ideal S768x256 .bf16) (x1 : FVec Ideal S48x768 .f32) (x2 : FVec Ideal S48x1 .f32) (m s : FVec Ideal S256x1 .f32) (W : FVec Ideal S48x3200 .f32) (b : FVec Ideal S1x3200 .f32) (r : Fin 256) :
    k0_pay11 (F := Ideal) v3 x1 x2 m s W b (ix2 r 0) = s (ix2 r 0) * Ideal.exp (m (ix2 r 0) - max (m (ix2 r 0)) (top (chunkZ (k0_pay1 v3 x1 x2) W b r)))
      + mass (chunkZ (k0_pay1 v3 x1 x2) W b r) (max (m (ix2 r 0)) (top (chunkZ (k0_pay1 v3 x1 x2) W b r))) := by
  simp only [chunkZ_fun, pay1_apply, aff]
  pointwise [k0_pay11, k0_pay10, k0_pay9, k0_pay1]
  simp only [negInf_eq, mass, top]
theorem pay2_apply (r : Fin 256) : k0_pay2 (F := Ideal) (ix2 r 0) = neg := by pointwise [k0_pay2]
theorem pay3_apply (r : Fin 256) : k0_pay3 (F := Ideal) (ix2 r 0) = (0 : EReal) := by pointwise [k0_pay3]
theorem pay7_apply (r : Fin 256) : k0_pay7 (F := Ideal) (ix2 r 0) = neg := by pointwise [k0_pay7]
theorem pay8_apply (r : Fin 256) : k0_pay8 (F := Ideal) (ix2 r 0) = (0 : EReal) := by pointwise [k0_pay8]

/-- The chunks' logits by number: chunk `j` is columns `3200 j` onward of the whole. -/
def chunks {D N : ℕ} (p : A2 D 256) (W : A2 D N) (b : A2 1 N) (r : Fin 256) (j : ℕ) (t : Fin 3200) : EReal :=
  if h : j * 3200 + t.val < N then aff (fun q => p (ix2 q r)) (fun q => W (ix2 q ⟨j * 3200 + t.val, h⟩)) (b (ix2 0 ⟨j * 3200 + t.val, h⟩)) else 0

theorem off1_eq : ∀ k : Fin k0_t1_loop.trips, k0_off1 k = ![0, k.val * 3200] := by decide +kernel
theorem off2_eq : ∀ k : Fin k0_t1_loop.trips, k0_off2 k = ![0, k.val * 3200] := by decide +kernel
theorem off3_eq : ∀ k : Fin k0_t2_loop.trips, k0_off3 k = ![0, k.val * 3200] := by decide +kernel
theorem off4_eq : ∀ k : Fin k0_t2_loop.trips, k0_off4 k = ![0, k.val * 3200] := by decide +kernel
theorem trips1 : k0_t1_loop.trips = 5 := by decide +kernel
theorem trips2 : k0_t2_loop.trips = 25 := by decide +kernel

theorem w1At_apply (W : FVec Ideal S192x16000 .f32) (k : Fin k0_t1_loop.trips) (q : Fin 192) (t : Fin 3200) (h : k.val * 3200 + t.val < 16000) :
    w1At (F := Ideal) W k (ix2 q t) = W (ix2 q ⟨k.val * 3200 + t.val, h⟩) := by
  refine congrArg W (funext fun a => Fin.ext ?_)
  have e := off1_eq k
  fin_cases a
  · show k0_off1 k 0 + 1 * q.val = q.val
    rw [e]; simp
  · show k0_off1 k 1 + 1 * t.val = k.val * 3200 + t.val
    rw [e]; simp
theorem b1At_apply (b : FVec Ideal S1x16000 .f32) (k : Fin k0_t1_loop.trips) (t : Fin 3200) (h : k.val * 3200 + t.val < 16000) :
    b1At (F := Ideal) b k (ix2 0 t) = b (ix2 0 ⟨k.val * 3200 + t.val, h⟩) := by
  refine congrArg b (funext fun a => Fin.ext ?_)
  have e := off2_eq k
  fin_cases a
  · show k0_off2 k 0 + 1 * 0 = 0
    rw [e]; simp
  · show k0_off2 k 1 + 1 * t.val = k.val * 3200 + t.val
    rw [e]; simp
theorem w2At_apply (W : FVec Ideal S48x80000 .f32) (k : Fin k0_t2_loop.trips) (q : Fin 48) (t : Fin 3200) (h : k.val * 3200 + t.val < 80000) :
    w2At (F := Ideal) W k (ix2 q t) = W (ix2 q ⟨k.val * 3200 + t.val, h⟩) := by
  refine congrArg W (funext fun a => Fin.ext ?_)
  have e := off3_eq k
  fin_cases a
  · show k0_off3 k 0 + 1 * q.val = q.val
    rw [e]; simp
  · show k0_off3 k 1 + 1 * t.val = k.val * 3200 + t.val
    rw [e]; simp
theorem b2At_apply (b : FVec Ideal S1x80000 .f32) (k : Fin k0_t2_loop.trips) (t : Fin 3200) (h : k.val * 3200 + t.val < 80000) :
    b2At (F := Ideal) b k (ix2 0 t) = b (ix2 0 ⟨k.val * 3200 + t.val, h⟩) := by
  refine congrArg b (funext fun a => Fin.ext ?_)
  have e := off4_eq k
  fin_cases a
  · show k0_off4 k 0 + 1 * 0 = 0
    rw [e]; simp
  · show k0_off4 k 1 + 1 * t.val = k.val * 3200 + t.val
    rw [e]; simp

theorem chunk1_eq (p : FVec Ideal S192x256 .bf16) (W : FVec Ideal S192x16000 .f32) (b : FVec Ideal S1x16000 .f32) (r : Fin 256) (k : Fin k0_t1_loop.trips) :
    chunkZ p (w1At (F := Ideal) W k) (b1At (F := Ideal) b k) r = chunks p W b r k := by
  funext t
  have h : k.val * 3200 + t.val < 16000 := by have := k.isLt; have := t.isLt; have := trips1; omega
  unfold chunkZ chunks
  rw [dif_pos h, b1At_apply b k t h]
  simp only [w1At_apply W k _ t h]
theorem chunk2_eq (p : FVec Ideal S48x256 .bf16) (W : FVec Ideal S48x80000 .f32) (b : FVec Ideal S1x80000 .f32) (r : Fin 256) (k : Fin k0_t2_loop.trips) :
    chunkZ p (w2At (F := Ideal) W k) (b2At (F := Ideal) b k) r = chunks p W b r k := by
  funext t
  have h : k.val * 3200 + t.val < 80000 := by have := k.isLt; have := t.isLt; have := trips2; omega
  unfold chunkZ chunks
  rw [dif_pos h, b2At_apply b k t h]
  simp only [w2At_apply W k _ t h]

/-- The carried pair of the first tail, at one row. -/
theorem run1_apply (p : FVec Ideal S192x256 .bf16) (W : FVec Ideal S192x16000 .f32) (b : FVec Ideal S1x16000 .f32) (r : Fin 256) (k : ℕ) (hk : k ≤ k0_t1_loop.trips) :
    (run1 (F := Ideal) p W b k).1 (ix2 r 0) = (run neg (chunks p W b r) k).1 ∧ (run1 (F := Ideal) p W b k).2 (ix2 r 0) = (run neg (chunks p W b r) k).2 := by
  induction k with
  | zero => exact ⟨pay2_apply r, pay3_apply r⟩
  | succ k ih =>
    have h : k < k0_t1_loop.trips := hk
    obtain ⟨h1, h2⟩ := ih (Nat.le_of_lt h)
    simp only [run1, dif_pos h, run, pay5_apply, pay6_apply, chunk1_eq, h1, h2, and_self]
/-- The carried pair of the second tail, at one row. -/
theorem run2_apply (v3 : FVec Ideal S768x256 .bf16) (x1 : FVec Ideal S48x768 .f32) (x2 : FVec Ideal S48x1 .f32) (W : FVec Ideal S48x80000 .f32) (b : FVec Ideal S1x80000 .f32) (r : Fin 256) (k : ℕ) (hk : k ≤ k0_t2_loop.trips) :
    (run2 (F := Ideal) v3 x1 x2 W b k).1 (ix2 r 0) = (run neg (chunks (k0_pay1 (F := Ideal) v3 x1 x2) W b r) k).1
    ∧ (run2 (F := Ideal) v3 x1 x2 W b k).2 (ix2 r 0) = (run neg (chunks (k0_pay1 (F := Ideal) v3 x1 x2) W b r) k).2 := by
  induction k with
  | zero => exact ⟨pay7_apply r, pay8_apply r⟩
  | succ k ih =>
    have h : k < k0_t2_loop.trips := hk
    obtain ⟨h1, h2⟩ := ih (Nat.le_of_lt h)
    simp only [run2, dif_pos h, run, pay10_apply, pay11_apply, chunk2_eq, h1, h2, and_self]

end Cert.KernelIdeal.Gen

end
-- ==== Proof.Host.lean ====
module

public import proofs.«01_k».proof.Proof.Gen.KernelIdeal.Regions
public import proofs.«01_k».proof.Proof.Spec
public import Idealize.ShloMosaic.Lib.Pipeline.Value

@[expose] public section

set_option maxRecDepth 16384

noncomputable section

namespace Cert.KernelIdeal.Gen

open Idealize.ShloMosaic Idealize.ShloMosaic.TcCoe Idealize.ShloMosaic.Tactic Idealize.ShloMosaic.StableHlo Cert.Soft

variable (m : (ℓ : Loc nD τ sig) → Buf (Elt Ideal) ℓ) (c : Dev nD)

theorem host_v0 : (V1 (F := Ideal) m c main_v0 : FVec Ideal S4002x768 .f32) = transpose S4002x768 [1, 0] (m (c.tc.loc main_arg1)) transposes_S768x4002_S4002x768_1_0 := by
  after_results_simp
theorem v0_apply (d : Fin 4002) (h : Fin 768) : (V1 (F := Ideal) m c main_v0 : A2 4002 768) (ix2 d h) = (m (c.tc.loc main_arg1) : A2 768 4002) (ix2 h d) := by
  rw [host_v0]; pointwise
theorem host_v1 : (V1 (F := Ideal) m c main_v1 : FVec Ideal S192x768 .f32) = transpose S192x768 [1, 0] (m (c.tc.loc main_arg3)) transposes_S768x192_S192x768_1_0 := by
  after_results_simp
theorem v1_apply (d : Fin 192) (h : Fin 768) : (V1 (F := Ideal) m c main_v1 : A2 192 768) (ix2 d h) = (m (c.tc.loc main_arg3) : A2 768 192) (ix2 h d) := by
  rw [host_v1]; pointwise
theorem host_v2 : (V1 (F := Ideal) m c main_v2 : FVec Ideal S48x768 .f32) = transpose S48x768 [1, 0] (m (c.tc.loc main_arg7)) transposes_S768x48_S48x768_1_0 := by
  after_results_simp
theorem v2_apply (d : Fin 48) (h : Fin 768) : (V1 (F := Ideal) m c main_v2 : A2 48 768) (ix2 d h) = (m (c.tc.loc main_arg7) : A2 768 48) (ix2 h d) := by
  rw [host_v2]; pointwise
theorem host_v3 : (V1 (F := Ideal) m c main_v3 : FVec Ideal S16000x192 .f32) = transpose S16000x192 [1, 0] (m (c.tc.loc main_arg5)) transposes_S192x16000_S16000x192_1_0 := by
  after_results_simp
theorem v3_apply (d : Fin 16000) (h : Fin 192) : (V1 (F := Ideal) m c main_v3 : A2 16000 192) (ix2 d h) = (m (c.tc.loc main_arg5) : A2 192 16000) (ix2 h d) := by
  rw [host_v3]; pointwise
theorem host_v4 : (V1 (F := Ideal) m c main_v4 : FVec Ideal S80000x48 .f32) = transpose S80000x48 [1, 0] (m (c.tc.loc main_arg9)) transposes_S48x80000_S80000x48_1_0 := by
  after_results_simp
theorem v4_apply (d : Fin 80000) (h : Fin 48) : (V1 (F := Ideal) m c main_v4 : A2 80000 48) (ix2 d h) = (m (c.tc.loc main_arg9) : A2 48 80000) (ix2 h d) := by
  rw [host_v4]; pointwise
theorem host_v5 : (V1 (F := Ideal) m c main_v5 : FVec Ideal S4002x1 .f32) = shapeCast S4002x1 (m (c.tc.loc main_arg2)) shapeCasts_S4002_S4002x1 := by
  after_results_simp
  rfl
theorem v5_apply (d : Fin 4002) : (V1 (F := Ideal) m c main_v5 : A2 4002 1) (ix2 d 0) = (m (c.tc.loc main_arg2) : A1 4002) (ix1 d) := by
  rw [host_v5]; pointwise
theorem host_v6 : (V1 (F := Ideal) m c main_v6 : FVec Ideal S192x1 .f32) = shapeCast S192x1 (m (c.tc.loc main_arg4)) shapeCasts_S192_S192x1 := by
  after_results_simp
  rfl
theorem v6_apply (d : Fin 192) : (V1 (F := Ideal) m c main_v6 : A2 192 1) (ix2 d 0) = (m (c.tc.loc main_arg4) : A1 192) (ix1 d) := by
  rw [host_v6]; pointwise
theorem host_v7 : (V1 (F := Ideal) m c main_v7 : FVec Ideal S48x1 .f32) = shapeCast S48x1 (m (c.tc.loc main_arg8)) shapeCasts_S48_S48x1 := by
  after_results_simp
  rfl
theorem v7_apply (d : Fin 48) : (V1 (F := Ideal) m c main_v7 : A2 48 1) (ix2 d 0) = (m (c.tc.loc main_arg8) : A1 48) (ix1 d) := by
  rw [host_v7]; pointwise
theorem host_v8 : (V1 (F := Ideal) m c main_v8 : FVec Ideal S16000x1 .f32) = shapeCast S16000x1 (m (c.tc.loc main_arg6)) shapeCasts_S16000_S16000x1 := by
  after_results_simp
  rfl
theorem v8_apply (d : Fin 16000) : (V1 (F := Ideal) m c main_v8 : A2 16000 1) (ix2 d 0) = (m (c.tc.loc main_arg6) : A1 16000) (ix1 d) := by
  rw [host_v8]; pointwise
theorem host_v9 : (V1 (F := Ideal) m c main_v9 : FVec Ideal S80000x1 .f32) = shapeCast S80000x1 (m (c.tc.loc main_arg10)) shapeCasts_S80000_S80000x1 := by
  after_results_simp
  rfl
theorem v9_apply (d : Fin 80000) : (V1 (F := Ideal) m c main_v9 : A2 80000 1) (ix2 d 0) = (m (c.tc.loc main_arg10) : A1 80000) (ix1 d) := by
  rw [host_v9]; pointwise
theorem host_v10 : (V1 (F := Ideal) m c main_v10 : FVec Ideal S1x16000 .f32) = shapeCast S1x16000 (m (c.tc.loc main_arg6)) shapeCasts_S16000_S1x16000 := by
  after_results_simp
  rfl
theorem v10_apply (d : Fin 16000) : (V1 (F := Ideal) m c main_v10 : A2 1 16000) (ix2 0 d) = (m (c.tc.loc main_arg6) : A1 16000) (ix1 d) := by
  rw [host_v10]; exact (shapeCast_addUnit_apply ![16000] _ _ _).trans (congrArg _ (funext fun a => by fin_cases a; rfl))
theorem host_v11 : (V1 (F := Ideal) m c main_v11 : FVec Ideal S1x80000 .f32) = shapeCast S1x80000 (m (c.tc.loc main_arg10)) shapeCasts_S80000_S1x80000 := by
  after_results_simp
  rfl
theorem v11_apply (d : Fin 80000) : (V1 (F := Ideal) m c main_v11 : A2 1 80000) (ix2 0 d) = (m (c.tc.loc main_arg10) : A1 80000) (ix1 d) := by
  rw [host_v11]; exact (shapeCast_addUnit_apply ![80000] _ _ _).trans (congrArg _ (funext fun a => by fin_cases a; rfl))
theorem host_arg0 : (V1 (F := Ideal) m c main_arg0 : A3 1 2048 768) = m (c.tc.loc main_arg0) := V1_of m c main_arg0 (by decide)
theorem host_arg5 : (V1 (F := Ideal) m c main_arg5 : A2 192 16000) = m (c.tc.loc main_arg5) := V1_of m c main_arg5 (by decide)
theorem host_arg9 : (V1 (F := Ideal) m c main_arg9 : A2 48 80000) = m (c.tc.loc main_arg9) := V1_of m c main_arg9 (by decide)

end Cert.KernelIdeal.Gen

end
-- ==== Proof.StatsArr.lean ====
module

public import proofs.«01_k».proof.Proof.Stats
public import proofs.«01_k».proof.Proof.StatsValue
public import proofs.«01_k».proof.Proof.Host
public import Idealize.ShloMosaic.Lib.Pipeline.ValueKit.Geometry

@[expose] public section

set_option maxRecDepth 16384

noncomputable section

namespace Cert.KernelIdeal.Gen

open Idealize.ShloMosaic Idealize.ShloMosaic.TcCoe Cert.Soft

variable (m : (ℓ : Loc nD τ sig) → Buf (Elt Ideal) ℓ) (c : Dev nD)

/-- The token a block's row stands for. -/
def tok (t : Fin cfg0.N) (r : Fin 256) : Fin 2048 := ⟨t.val * 256 + r.val, by have := r.isLt; have : t.val < 8 := t.isLt; omega⟩

theorem idx0_0 : ∀ t : Fin cfg0.N, win0_0.index t = ![0, t.val, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![0, 0] := (by decide +kernel : ∀ t : Fin grid0.N, _)
theorem idx0_7 : ∀ t : Fin cfg0.N, win0_7.index t = ![0, 0] := (by decide +kernel : ∀ t : Fin grid0.N, _)
theorem idx0_8 : ∀ t : Fin cfg0.N, win0_8.index t = ![0, 0] := (by decide +kernel : ∀ t : Fin grid0.N, _)
theorem idx0_9 : ∀ t : Fin cfg0.N, win0_9.index t = ![0, 0] := (by decide +kernel : ∀ t : Fin grid0.N, _)
theorem idx0_10 : ∀ t : Fin cfg0.N, win0_10.index t = ![0, 0] := (by decide +kernel : ∀ t : Fin grid0.N, _)
theorem idx0_11 : ∀ t : Fin cfg0.N, win0_11.index t = ![0, t.val] := (by decide +kernel : ∀ t : Fin grid0.N, _)
theorem idx0_12 : ∀ t : Fin cfg0.N, win0_12.index t = ![0, t.val] := (by decide +kernel : ∀ t : Fin grid0.N, _)
theorem idx0_13 : ∀ t : Fin cfg0.N, win0_13.index t = ![0, t.val] := (by decide +kernel : ∀ t : Fin grid0.N, _)
theorem idx0_14 : ∀ t : Fin cfg0.N, win0_14.index t = ![0, t.val] := (by decide +kernel : ∀ t : Fin grid0.N, _)

theorem in0 (t : Fin cfg0.N) (r : Fin 256) (h : Fin 768) :
    (iblk0 (V1 (F := Ideal) m) c 0 t : A3 1 256 768) (ix3 0 r h) = (m (c.tc.loc main_arg0) : A3 1 2048 768) (ix3 0 (tok t r) h) := by
  rw [← host_arg0 m c]
  blk_simp [iblk0]
  refine congrArg (V1 (F := Ideal) m c (Proc.devRef .tc main_arg0)) ?_
  blk_ext [idx0_0, tok]
theorem in1 (t : Fin cfg0.N) (a : Fin 4002) (b : Fin 768) : (iblk0 (V1 (F := Ideal) m) c 1 t : A2 4002 768) (ix2 a b) = (m (c.tc.loc main_arg1) : A2 768 4002) (ix2 b a) := by
  refine Eq.trans ?_ (v0_apply m c a b)
  blk_simp [iblk0]
  refine congrArg (V1 (F := Ideal) m c (Proc.devRef .tc main_v0)) ?_
  blk_ext [idx0_1]
theorem in2 (t : Fin cfg0.N) (a : Fin 4002) : (iblk0 (V1 (F := Ideal) m) c 2 t : A2 4002 1) (ix2 a 0) = (m (c.tc.loc main_arg2) : A1 4002) (ix1 a) := by
  refine Eq.trans ?_ (v5_apply m c a)
  blk_simp [iblk0]
  refine congrArg (V1 (F := Ideal) m c (Proc.devRef .tc main_v5)) ?_
  blk_ext [idx0_2]
theorem in3 (t : Fin cfg0.N) (a : Fin 192) (b : Fin 768) : (iblk0 (V1 (F := Ideal) m) c 3 t : A2 192 768) (ix2 a b) = (m (c.tc.loc main_arg3) : A2 768 192) (ix2 b a) := by
  refine Eq.trans ?_ (v1_apply m c a b)
  blk_simp [iblk0]
  refine congrArg (V1 (F := Ideal) m c (Proc.devRef .tc main_v1)) ?_
  blk_ext [idx0_3]
theorem in4 (t : Fin cfg0.N) (a : Fin 192) : (iblk0 (V1 (F := Ideal) m) c 4 t : A2 192 1) (ix2 a 0) = (m (c.tc.loc main_arg4) : A1 192) (ix1 a) := by
  refine Eq.trans ?_ (v6_apply m c a)
  blk_simp [iblk0]
  refine congrArg (V1 (F := Ideal) m c (Proc.devRef .tc main_v6)) ?_
  blk_ext [idx0_4]
theorem in5 (t : Fin cfg0.N) (a : Fin 192) (b : Fin 16000) : (iblk0 (V1 (F := Ideal) m) c 5 t : A2 192 16000) (ix2 a b) = (m (c.tc.loc main_arg5) : A2 192 16000) (ix2 a b) := by
  refine Eq.trans ?_ (congrFun (host_arg5 m c) _)
  blk_simp [iblk0]
  refine congrArg (V1 (F := Ideal) m c (Proc.devRef .tc main_arg5)) ?_
  blk_ext [idx0_5]
theorem in6 (t : Fin cfg0.N)  (b : Fin 16000) : (iblk0 (V1 (F := Ideal) m) c 6 t : A2 1 16000) (ix2 0 b) = (m (c.tc.loc main_arg6) : A1 16000) (ix1 b) := by
  refine Eq.trans ?_ (v10_apply m c b)
  blk_simp [iblk0]
  refine congrArg (V1 (F := Ideal) m c (Proc.devRef .tc main_v10)) ?_
  blk_ext [idx0_6]
theorem in7 (t : Fin cfg0.N) (a : Fin 48) (b : Fin 768) : (iblk0 (V1 (F := Ideal) m) c 7 t : A2 48 768) (ix2 a b) = (m (c.tc.loc main_arg7) : A2 768 48) (ix2 b a) := by
  refine Eq.trans ?_ (v2_apply m c a b)
  blk_simp [iblk0]
  refine congrArg (V1 (F := Ideal) m c (Proc.devRef .tc main_v2)) ?_
  blk_ext [idx0_7]
theorem in8 (t : Fin cfg0.N) (a : Fin 48) : (iblk0 (V1 (F := Ideal) m) c 8 t : A2 48 1) (ix2 a 0) = (m (c.tc.loc main_arg8) : A1 48) (ix1 a) := by
  refine Eq.trans ?_ (v7_apply m c a)
  blk_simp [iblk0]
  refine congrArg (V1 (F := Ideal) m c (Proc.devRef .tc main_v7)) ?_
  blk_ext [idx0_8]
theorem in9 (t : Fin cfg0.N) (a : Fin 48) (b : Fin 80000) : (iblk0 (V1 (F := Ideal) m) c 9 t : A2 48 80000) (ix2 a b) = (m (c.tc.loc main_arg9) : A2 48 80000) (ix2 a b) := by
  refine Eq.trans ?_ (congrFun (host_arg9 m c) _)
  blk_simp [iblk0]
  refine congrArg (V1 (F := Ideal) m c (Proc.devRef .tc main_arg9)) ?_
  blk_ext [idx0_9]
theorem in10 (t : Fin cfg0.N)  (b : Fin 80000) : (iblk0 (V1 (F := Ideal) m) c 10 t : A2 1 80000) (ix2 0 b) = (m (c.tc.loc main_arg10) : A1 80000) (ix1 b) := by
  refine Eq.trans ?_ (v11_apply m c b)
  blk_simp [iblk0]
  refine congrArg (V1 (F := Ideal) m c (Proc.devRef .tc main_v11)) ?_
  blk_ext [idx0_10]
theorem emb11 (t : Fin cfg0.N) (y : (⟨2, ![4002, 256]⟩ : Shape).Idx) : ((cfg0.win 11).blk t).view.emb y = (ix2 (y 0) (tok t (y 1)) : (⟨2, ![4002, 2048]⟩ : Shape).Idx) := by
  blk_ext [idx0_11, tok]
theorem emb12 (t : Fin cfg0.N) (y : (⟨2, ![192, 256]⟩ : Shape).Idx) : ((cfg0.win 12).blk t).view.emb y = (ix2 (y 0) (tok t (y 1)) : (⟨2, ![192, 2048]⟩ : Shape).Idx) := by
  blk_ext [idx0_12, tok]
theorem emb13 (t : Fin cfg0.N) (y : (⟨2, ![48, 256]⟩ : Shape).Idx) : ((cfg0.win 13).blk t).view.emb y = (ix2 (y 0) (tok t (y 1)) : (⟨2, ![48, 2048]⟩ : Shape).Idx) := by
  blk_ext [idx0_13, tok]
theorem emb14 (t : Fin cfg0.N) (y : (⟨2, ![8, 256]⟩ : Shape).Idx) : ((cfg0.win 14).blk t).view.emb y = (ix2 (y 0) (tok t (y 1)) : (⟨2, ![8, 2048]⟩ : Shape).Idx) := by
  blk_ext [idx0_14, tok]
theorem affHead (t : Fin cfg0.N) (r : Fin 256) :
    affB (iblk0 (V1 (F := Ideal) m) c 0 t) (iblk0 (V1 (F := Ideal) m) c 1 t : A2 4002 768) (iblk0 (V1 (F := Ideal) m) c 2 t : A2 4002 1) r
      = dense (m (c.tc.loc main_arg0)) (m (c.tc.loc main_arg1)) (m (c.tc.loc main_arg2)) (tok t r) := by
  funext d
  unfold affB dense
  rw [aff_comm]
  simp only [in0, in1, in2]
theorem affP1 (t : Fin cfg0.N) (r : Fin 256) :
    affB (iblk0 (V1 (F := Ideal) m) c 0 t) (iblk0 (V1 (F := Ideal) m) c 3 t : A2 192 768) (iblk0 (V1 (F := Ideal) m) c 4 t : A2 192 1) r
      = dense (m (c.tc.loc main_arg0)) (m (c.tc.loc main_arg3)) (m (c.tc.loc main_arg4)) (tok t r) := by
  funext d
  unfold affB dense
  rw [aff_comm]
  simp only [in0, in3, in4]
theorem affP2 (t : Fin cfg0.N) (r : Fin 256) :
    affB (iblk0 (V1 (F := Ideal) m) c 0 t) (iblk0 (V1 (F := Ideal) m) c 7 t : A2 48 768) (iblk0 (V1 (F := Ideal) m) c 8 t : A2 48 1) r
      = dense (m (c.tc.loc main_arg0)) (m (c.tc.loc main_arg7)) (m (c.tc.loc main_arg8)) (tok t r) := by
  funext d
  unfold affB dense
  rw [aff_comm]
  simp only [in0, in7, in8]

theorem ix2_eta {a b : ℕ} (y : (⟨2, ![a, b]⟩ : Shape).Idx) : y = ix2 (y 0) (y 1) := by
  funext i; fin_cases i <;> rfl
theorem ix2_row {a b : ℕ} (y : (⟨2, ![a, b]⟩ : Shape).Idx) (k : Fin a) (h : y 0 = k) : y = ix2 k (y 1) := by
  subst h; exact ix2_eta y
theorem ix3_eta {a b c : ℕ} (y : (⟨3, ![a, b, c]⟩ : Shape).Idx) : y = ix3 (y 0) (y 1) (y 2) := by
  funext i; fin_cases i <;> rfl

/-- The head's softmax as the kernel computes it, words by tokens. -/
def G11 : A2 4002 2048 := fun i => softInv (dense (m (c.tc.loc main_arg0)) (m (c.tc.loc main_arg1)) (m (c.tc.loc main_arg2)) (i 1)) (i 0)
theorem cell11 (t : Fin cfg0.N) (d : Fin 4002) (r : Fin 256) :
    (out0_11 (F := Ideal) (iblk0 (V1 m) c 0 t) (iblk0 (V1 m) c 1 t) (iblk0 (V1 m) c 2 t) : A2 4002 256) (ix2 d r) = G11 m c (ix2 d (tok t r)) := by
  refine (pay14_apply _ _ _ d r).trans ?_
  rw [affHead]
  rfl
/-- The head's array after the first region. -/
theorem arr11 : (dat0 (V1 (F := Ideal) m) c).arrAt 11 cfg0.N = G11 m c := by
  refine (dat0 (V1 (F := Ideal) m) c).arrAt_eq_of_covers 11 _ (by decide +kernel) fun t hf y => ?_
  blk_simp
  refine Eq.trans ?_ (congrArg (G11 m c) (emb11 t y).symm)
  rw [after0_11]
  refine (congrArg _ (ix2_eta (a := 4002) (b := 256) y)).trans ?_
  exact cell11 m c t (y 0) (y 1)
/-- One tail's projection, coordinates by tokens. -/
def G12 : A2 192 2048 := fun i => dense (m (c.tc.loc main_arg0)) (m (c.tc.loc main_arg3)) (m (c.tc.loc main_arg4)) (i 1) (i 0)
theorem cell12 (t : Fin cfg0.N) (d : Fin 192) (r : Fin 256) :
    (out0_12 (F := Ideal) (iblk0 (V1 m) c 0 t) (iblk0 (V1 m) c 3 t) (iblk0 (V1 m) c 4 t) : A2 192 256) (ix2 d r) = G12 m c (ix2 d (tok t r)) := by
  refine (pay17_apply _ _ _ d r).trans ?_
  rw [affP1]
  rfl
/-- The array of one tail's projection after the first region. -/
theorem arr12 : (dat0 (V1 (F := Ideal) m) c).arrAt 12 cfg0.N = G12 m c := by
  refine (dat0 (V1 (F := Ideal) m) c).arrAt_eq_of_covers 12 _ (by decide +kernel) fun t hf y => ?_
  blk_simp
  refine Eq.trans ?_ (congrArg (G12 m c) (emb12 t y).symm)
  rw [after0_12]
  refine (congrArg _ (ix2_eta (a := 192) (b := 256) y)).trans ?_
  exact cell12 m c t (y 0) (y 1)
/-- One tail's projection, coordinates by tokens. -/
def G13 : A2 48 2048 := fun i => dense (m (c.tc.loc main_arg0)) (m (c.tc.loc main_arg7)) (m (c.tc.loc main_arg8)) (i 1) (i 0)
theorem cell13 (t : Fin cfg0.N) (d : Fin 48) (r : Fin 256) :
    (out0_13 (F := Ideal) (iblk0 (V1 m) c 0 t) (iblk0 (V1 m) c 7 t) (iblk0 (V1 m) c 8 t) : A2 48 256) (ix2 d r) = G13 m c (ix2 d (tok t r)) := by
  refine (pay1_apply _ _ _ d r).trans ?_
  simp only [pay13_apply]
  exact congrFun (affP2 m c t r) d
/-- The array of one tail's projection after the first region. -/
theorem arr13 : (dat0 (V1 (F := Ideal) m) c).arrAt 13 cfg0.N = G13 m c := by
  refine (dat0 (V1 (F := Ideal) m) c).arrAt_eq_of_covers 13 _ (by decide +kernel) fun t hf y => ?_
  blk_simp
  refine Eq.trans ?_ (congrArg (G13 m c) (emb13 t y).symm)
  rw [after0_13]
  refine (congrArg _ (ix2_eta (a := 48) (b := 256) y)).trans ?_
  exact cell13 m c t (y 0) (y 1)

/-- One tail's logits by chunk. -/
def zc {D N : ℕ} (x : A3 1 2048 768) (pw : A2 768 D) (pb : A1 D) (w : A2 D N) (b : A1 N) (s : Fin 2048) (j : ℕ) (t : Fin 3200) : EReal :=
  if h : j * 3200 + t.val < N then logits x pw pb w b s ⟨j * 3200 + t.val, h⟩ else 0

theorem chunksZ1 (t : Fin cfg0.N) (r : Fin 256) :
    chunks (k0_pay17 (iblk0 (V1 (F := Ideal) m) c 0 t) (iblk0 (V1 (F := Ideal) m) c 3 t) (iblk0 (V1 (F := Ideal) m) c 4 t)) (iblk0 (V1 (F := Ideal) m) c 5 t : A2 192 16000) (iblk0 (V1 (F := Ideal) m) c 6 t : A2 1 16000) r
      = zc (m (c.tc.loc main_arg0)) (m (c.tc.loc main_arg3)) (m (c.tc.loc main_arg4)) (m (c.tc.loc main_arg5)) (m (c.tc.loc main_arg6)) (tok t r) := by
  have hp : ∀ q : Fin 192, (k0_pay17 (iblk0 (V1 (F := Ideal) m) c 0 t) (iblk0 (V1 (F := Ideal) m) c 3 t) (iblk0 (V1 (F := Ideal) m) c 4 t)) (ix2 q r) = dense (m (c.tc.loc main_arg0)) (m (c.tc.loc main_arg3)) (m (c.tc.loc main_arg4)) (tok t r) q := fun q => (pay17_apply _ _ _ q r).trans (congrFun (affP1 m c t r) q)
  funext j k
  unfold chunks zc logits
  by_cases h : j * 3200 + k.val < 16000
  · rw [dif_pos h, dif_pos h]
    have hw : ∀ q : Fin 192, (iblk0 (V1 (F := Ideal) m) c 5 t : A2 192 16000) (ix2 q ⟨j * 3200 + k.val, h⟩) = (m (c.tc.loc main_arg5) : A2 192 16000) (ix2 q ⟨j * 3200 + k.val, h⟩) :=
      fun q => in5 m c t q _
    have hb : (iblk0 (V1 (F := Ideal) m) c 6 t : A2 1 16000) (ix2 0 ⟨j * 3200 + k.val, h⟩) = (m (c.tc.loc main_arg6) : A1 16000) (ix1 ⟨j * 3200 + k.val, h⟩) :=
      in6 m c t _
    simp only [hp, hw, hb]
  · rw [dif_neg h, dif_neg h]
theorem chunksZ2 (t : Fin cfg0.N) (r : Fin 256) :
    chunks (k0_pay1 (k0_pay13 (iblk0 (V1 (F := Ideal) m) c 0 t)) (iblk0 (V1 (F := Ideal) m) c 7 t) (iblk0 (V1 (F := Ideal) m) c 8 t)) (iblk0 (V1 (F := Ideal) m) c 9 t : A2 48 80000) (iblk0 (V1 (F := Ideal) m) c 10 t : A2 1 80000) r
      = zc (m (c.tc.loc main_arg0)) (m (c.tc.loc main_arg7)) (m (c.tc.loc main_arg8)) (m (c.tc.loc main_arg9)) (m (c.tc.loc main_arg10)) (tok t r) := by
  have hp : ∀ q : Fin 48, (k0_pay1 (k0_pay13 (iblk0 (V1 (F := Ideal) m) c 0 t)) (iblk0 (V1 (F := Ideal) m) c 7 t) (iblk0 (V1 (F := Ideal) m) c 8 t)) (ix2 q r) = dense (m (c.tc.loc main_arg0)) (m (c.tc.loc main_arg7)) (m (c.tc.loc main_arg8)) (tok t r) q := fun q => by
    refine (pay1_apply _ _ _ q r).trans ?_
    simp only [pay13_apply]
    exact congrFun (affP2 m c t r) q
  funext j k
  unfold chunks zc logits
  by_cases h : j * 3200 + k.val < 80000
  · rw [dif_pos h, dif_pos h]
    have hw : ∀ q : Fin 48, (iblk0 (V1 (F := Ideal) m) c 9 t : A2 48 80000) (ix2 q ⟨j * 3200 + k.val, h⟩) = (m (c.tc.loc main_arg9) : A2 48 80000) (ix2 q ⟨j * 3200 + k.val, h⟩) :=
      fun q => in9 m c t q _
    have hb : (iblk0 (V1 (F := Ideal) m) c 10 t : A2 1 80000) (ix2 0 ⟨j * 3200 + k.val, h⟩) = (m (c.tc.loc main_arg10) : A1 80000) (ix1 ⟨j * 3200 + k.val, h⟩) :=
      in10 m c t _
    simp only [hp, hw, hb]
  · rw [dif_neg h, dif_neg h]
theorem st0 (t : Fin cfg0.N) (r : Fin 256) : (out0_14 (F := Ideal) (iblk0 (V1 (F := Ideal) m) c 0 t) (iblk0 (V1 (F := Ideal) m) c 1 t) (iblk0 (V1 (F := Ideal) m) c 2 t) (iblk0 (V1 (F := Ideal) m) c 3 t) (iblk0 (V1 (F := Ideal) m) c 4 t) (iblk0 (V1 (F := Ideal) m) c 5 t) (iblk0 (V1 (F := Ideal) m) c 6 t) (iblk0 (V1 (F := Ideal) m) c 7 t) (iblk0 (V1 (F := Ideal) m) c 8 t) (iblk0 (V1 (F := Ideal) m) c 9 t) (iblk0 (V1 (F := Ideal) m) c 10 t) : A2 8 256) (ix2 0 r) = (run neg (zc (m (c.tc.loc main_arg0)) (m (c.tc.loc main_arg3)) (m (c.tc.loc main_arg4)) (m (c.tc.loc main_arg5)) (m (c.tc.loc main_arg6)) (tok t r)) 5).1 := by
  refine (pay12_row0 _ _ _ _ _ _ r).trans ?_
  rw [(run1_apply _ _ _ r _ le_rfl).1, chunksZ1, trips1]
/-- Row 0 of the statistics after the first region. -/
theorem arr14_0 (s : Fin 2048) : ((dat0 (V1 (F := Ideal) m) c).arrAt 14 cfg0.N : A2 8 2048) (ix2 0 s) = (run neg (zc (m (c.tc.loc main_arg0)) (m (c.tc.loc main_arg3)) (m (c.tc.loc main_arg4)) (m (c.tc.loc main_arg5)) (m (c.tc.loc main_arg6)) s) 5).1 := by
  refine (show ∀ s, ix2 0 _ = ix2 0 s → _ from (dat0 (V1 (F := Ideal) m) c).arrAt_forall_of_covers 14 (fun (i : (⟨2, ![8, 2048]⟩ : Shape).Idx) (v : EReal) => ∀ s, i = ix2 0 s → v = (run neg (zc (m (c.tc.loc main_arg0)) (m (c.tc.loc main_arg3)) (m (c.tc.loc main_arg4)) (m (c.tc.loc main_arg5)) (m (c.tc.loc main_arg6)) s) 5).1) (by decide +kernel)
    (fun t hf y => ?_) (ix2 0 s)) s rfl
  blk_simp
  intro s hs
  have hs' := (emb14 t y).symm.trans hs
  have h1 : tok t (y 1) = s := congrFun hs' 1
  have hy := ix2_row (a := 8) (b := 256) y 0 (congrFun hs' 0)
  rw [after0_14]
  refine (congrArg _ hy).trans ((st0 m c t (y 1)).trans ?_)
  rw [h1]
theorem st1 (t : Fin cfg0.N) (r : Fin 256) : (out0_14 (F := Ideal) (iblk0 (V1 (F := Ideal) m) c 0 t) (iblk0 (V1 (F := Ideal) m) c 1 t) (iblk0 (V1 (F := Ideal) m) c 2 t) (iblk0 (V1 (F := Ideal) m) c 3 t) (iblk0 (V1 (F := Ideal) m) c 4 t) (iblk0 (V1 (F := Ideal) m) c 5 t) (iblk0 (V1 (F := Ideal) m) c 6 t) (iblk0 (V1 (F := Ideal) m) c 7 t) (iblk0 (V1 (F := Ideal) m) c 8 t) (iblk0 (V1 (F := Ideal) m) c 9 t) (iblk0 (V1 (F := Ideal) m) c 10 t) : A2 8 256) (ix2 1 r) = Ideal.div (softInv (dense (m (c.tc.loc main_arg0)) (m (c.tc.loc main_arg1)) (m (c.tc.loc main_arg2)) (tok t r)) 4000) (run neg (zc (m (c.tc.loc main_arg0)) (m (c.tc.loc main_arg3)) (m (c.tc.loc main_arg4)) (m (c.tc.loc main_arg5)) (m (c.tc.loc main_arg6)) (tok t r)) 5).2 := by
  refine (pay12_row1 _ _ _ _ _ _ r).trans ?_
  rw [(run1_apply _ _ _ r _ le_rfl).2, chunksZ1, trips1, pay15_apply, affHead]
/-- Row 1 of the statistics after the first region. -/
theorem arr14_1 (s : Fin 2048) : ((dat0 (V1 (F := Ideal) m) c).arrAt 14 cfg0.N : A2 8 2048) (ix2 1 s) = Ideal.div (softInv (dense (m (c.tc.loc main_arg0)) (m (c.tc.loc main_arg1)) (m (c.tc.loc main_arg2)) s) 4000) (run neg (zc (m (c.tc.loc main_arg0)) (m (c.tc.loc main_arg3)) (m (c.tc.loc main_arg4)) (m (c.tc.loc main_arg5)) (m (c.tc.loc main_arg6)) s) 5).2 := by
  refine (show ∀ s, ix2 1 _ = ix2 1 s → _ from (dat0 (V1 (F := Ideal) m) c).arrAt_forall_of_covers 14 (fun (i : (⟨2, ![8, 2048]⟩ : Shape).Idx) (v : EReal) => ∀ s, i = ix2 1 s → v = Ideal.div (softInv (dense (m (c.tc.loc main_arg0)) (m (c.tc.loc main_arg1)) (m (c.tc.loc main_arg2)) s) 4000) (run neg (zc (m (c.tc.loc main_arg0)) (m (c.tc.loc main_arg3)) (m (c.tc.loc main_arg4)) (m (c.tc.loc main_arg5)) (m (c.tc.loc main_arg6)) s) 5).2) (by decide +kernel)
    (fun t hf y => ?_) (ix2 1 s)) s rfl
  blk_simp
  intro s hs
  have hs' := (emb14 t y).symm.trans hs
  have h1 : tok t (y 1) = s := congrFun hs' 1
  have hy := ix2_row (a := 8) (b := 256) y 1 (congrFun hs' 0)
  rw [after0_14]
  refine (congrArg _ hy).trans ((st1 m c t (y 1)).trans ?_)
  rw [h1]
theorem st2 (t : Fin cfg0.N) (r : Fin 256) : (out0_14 (F := Ideal) (iblk0 (V1 (F := Ideal) m) c 0 t) (iblk0 (V1 (F := Ideal) m) c 1 t) (iblk0 (V1 (F := Ideal) m) c 2 t) (iblk0 (V1 (F := Ideal) m) c 3 t) (iblk0 (V1 (F := Ideal) m) c 4 t) (iblk0 (V1 (F := Ideal) m) c 5 t) (iblk0 (V1 (F := Ideal) m) c 6 t) (iblk0 (V1 (F := Ideal) m) c 7 t) (iblk0 (V1 (F := Ideal) m) c 8 t) (iblk0 (V1 (F := Ideal) m) c 9 t) (iblk0 (V1 (F := Ideal) m) c 10 t) : A2 8 256) (ix2 2 r) = (run neg (zc (m (c.tc.loc main_arg0)) (m (c.tc.loc main_arg7)) (m (c.tc.loc main_arg8)) (m (c.tc.loc main_arg9)) (m (c.tc.loc main_arg10)) (tok t r)) 25).1 := by
  refine (pay12_row2 _ _ _ _ _ _ r).trans ?_
  rw [(run2_apply _ _ _ _ _ r _ le_rfl).1, chunksZ2, trips2]
/-- Row 2 of the statistics after the first region. -/
theorem arr14_2 (s : Fin 2048) : ((dat0 (V1 (F := Ideal) m) c).arrAt 14 cfg0.N : A2 8 2048) (ix2 2 s) = (run neg (zc (m (c.tc.loc main_arg0)) (m (c.tc.loc main_arg7)) (m (c.tc.loc main_arg8)) (m (c.tc.loc main_arg9)) (m (c.tc.loc main_arg10)) s) 25).1 := by
  refine (show ∀ s, ix2 2 _ = ix2 2 s → _ from (dat0 (V1 (F := Ideal) m) c).arrAt_forall_of_covers 14 (fun (i : (⟨2, ![8, 2048]⟩ : Shape).Idx) (v : EReal) => ∀ s, i = ix2 2 s → v = (run neg (zc (m (c.tc.loc main_arg0)) (m (c.tc.loc main_arg7)) (m (c.tc.loc main_arg8)) (m (c.tc.loc main_arg9)) (m (c.tc.loc main_arg10)) s) 25).1) (by decide +kernel)
    (fun t hf y => ?_) (ix2 2 s)) s rfl
  blk_simp
  intro s hs
  have hs' := (emb14 t y).symm.trans hs
  have h1 : tok t (y 1) = s := congrFun hs' 1
  have hy := ix2_row (a := 8) (b := 256) y 2 (congrFun hs' 0)
  rw [after0_14]
  refine (congrArg _ hy).trans ((st2 m c t (y 1)).trans ?_)
  rw [h1]
theorem st3 (t : Fin cfg0.N) (r : Fin 256) : (out0_14 (F := Ideal) (iblk0 (V1 (F := Ideal) m) c 0 t) (iblk0 (V1 (F := Ideal) m) c 1 t) (iblk0 (V1 (F := Ideal) m) c 2 t) (iblk0 (V1 (F := Ideal) m) c 3 t) (iblk0 (V1 (F := Ideal) m) c 4 t) (iblk0 (V1 (F := Ideal) m) c 5 t) (iblk0 (V1 (F := Ideal) m) c 6 t) (iblk0 (V1 (F := Ideal) m) c 7 t) (iblk0 (V1 (F := Ideal) m) c 8 t) (iblk0 (V1 (F := Ideal) m) c 9 t) (iblk0 (V1 (F := Ideal) m) c 10 t) : A2 8 256) (ix2 3 r) = Ideal.div (softInv (dense (m (c.tc.loc main_arg0)) (m (c.tc.loc main_arg1)) (m (c.tc.loc main_arg2)) (tok t r)) 4001) (run neg (zc (m (c.tc.loc main_arg0)) (m (c.tc.loc main_arg7)) (m (c.tc.loc main_arg8)) (m (c.tc.loc main_arg9)) (m (c.tc.loc main_arg10)) (tok t r)) 25).2 := by
  refine (pay12_row3 _ _ _ _ _ _ r).trans ?_
  rw [(run2_apply _ _ _ _ _ r _ le_rfl).2, chunksZ2, trips2, pay16_apply, affHead]
/-- Row 3 of the statistics after the first region. -/
theorem arr14_3 (s : Fin 2048) : ((dat0 (V1 (F := Ideal) m) c).arrAt 14 cfg0.N : A2 8 2048) (ix2 3 s) = Ideal.div (softInv (dense (m (c.tc.loc main_arg0)) (m (c.tc.loc main_arg1)) (m (c.tc.loc main_arg2)) s) 4001) (run neg (zc (m (c.tc.loc main_arg0)) (m (c.tc.loc main_arg7)) (m (c.tc.loc main_arg8)) (m (c.tc.loc main_arg9)) (m (c.tc.loc main_arg10)) s) 25).2 := by
  refine (show ∀ s, ix2 3 _ = ix2 3 s → _ from (dat0 (V1 (F := Ideal) m) c).arrAt_forall_of_covers 14 (fun (i : (⟨2, ![8, 2048]⟩ : Shape).Idx) (v : EReal) => ∀ s, i = ix2 3 s → v = Ideal.div (softInv (dense (m (c.tc.loc main_arg0)) (m (c.tc.loc main_arg1)) (m (c.tc.loc main_arg2)) s) 4001) (run neg (zc (m (c.tc.loc main_arg0)) (m (c.tc.loc main_arg7)) (m (c.tc.loc main_arg8)) (m (c.tc.loc main_arg9)) (m (c.tc.loc main_arg10)) s) 25).2) (by decide +kernel)
    (fun t hf y => ?_) (ix2 3 s)) s rfl
  blk_simp
  intro s hs
  have hs' := (emb14 t y).symm.trans hs
  have h1 : tok t (y 1) = s := congrFun hs' 1
  have hy := ix2_row (a := 8) (b := 256) y 3 (congrFun hs' 0)
  rw [after0_14]
  refine (congrArg _ hy).trans ((st3 m c t (y 1)).trans ?_)
  rw [h1]

end Cert.KernelIdeal.Gen

end
-- ==== Proof.WriteArr.lean ====
module

public import proofs.«01_k».proof.Proof.Run
public import proofs.«01_k».proof.Proof.StatsArr

@[expose] public section

set_option maxRecDepth 16384

noncomputable section

namespace Cert.KernelIdeal.Gen

open Idealize.ShloMosaic Idealize.ShloMosaic.TcCoe Cert.Soft

variable (m : (ℓ : Loc nD τ sig) → Buf (Elt Ideal) ℓ) (c : Dev nD)

theorem coords1 : ∀ t : Fin cfg1.N, (grid1.coords t 1).val = t.val := (by decide +kernel : ∀ t : Fin grid1.N, _)

theorem idx1_0 : ∀ t : Fin cfg1.N, win1_0.index t = ![min t.val 7, 0] := (by decide +kernel : ∀ t : Fin grid1.N, _)
theorem xs1_0 : ∀ t : Fin cfg1.N, win1_0.xsize (grid1.coords t) = ![min 512 (4002 - (min t.val 7) * 512), 2048] := (by decide +kernel : ∀ t : Fin grid1.N, _)
theorem rd0 (t : Fin cfg1.N) (d : (cfg1.win 0).block.Idx → Elt Ideal (cfg1.win 0).elt) (r : Fin 512) (b : Fin 2048) (n : Fin 4002) (hn : (min t.val 7) * 512 + r.val = n.val) :
    (fblk1 (U2 (F := Ideal) m) c 0 t d : A2 512 2048) (ix2 r b) = G11 m c (ix2 n b) := by
  have hr := r.isLt
  have hN := n.isLt
  have hm : (cfg1.win 0).moved (cfg1.grid.coords t) (ix2 r b) = true := by
    refine ((cfg1.win 0).moved_iff _ _).mpr fun a => ?_
    have e := congrFun (xs1_0 t) a
    refine lt_of_lt_of_eq ?_ e.symm
    fin_cases a
    · show r.val < min 512 (4002 - (min t.val 7) * 512)
      omega
    · show (b : Fin 2048).val < 2048
      exact b.isLt
  refine Eq.trans (Eq.trans (dif_pos hm) ?_) ((congrFun (U2_arr m c 11) _).trans (congrFun (arr11 m c) _))
  blk_simp [iblk1]
  refine congrArg (U2 (F := Ideal) m c (Proc.devRef .tc main_v12_0)) ?_
  blk_ext [idx1_0]
theorem idx1_4 : ∀ t : Fin cfg1.N, win1_4.index t = ![min (t.val - 8) 31, 0] := (by decide +kernel : ∀ t : Fin grid1.N, _)
theorem xs1_4 : ∀ t : Fin cfg1.N, win1_4.xsize (grid1.coords t) = ![min 512 (16000 - (min (t.val - 8) 31) * 512), 192] := (by decide +kernel : ∀ t : Fin grid1.N, _)
theorem rd4 (t : Fin cfg1.N) (d : (cfg1.win 4).block.Idx → Elt Ideal (cfg1.win 4).elt) (r : Fin 512) (b : Fin 192) (n : Fin 16000) (hn : (min (t.val - 8) 31) * 512 + r.val = n.val) :
    (fblk1 (U2 (F := Ideal) m) c 4 t d : A2 512 192) (ix2 r b) = (m (c.tc.loc main_arg5) : A2 192 16000) (ix2 b n) := by
  have hr := r.isLt
  have hN := n.isLt
  have hm : (cfg1.win 4).moved (cfg1.grid.coords t) (ix2 r b) = true := by
    refine ((cfg1.win 4).moved_iff _ _).mpr fun a => ?_
    have e := congrFun (xs1_4 t) a
    refine lt_of_lt_of_eq ?_ e.symm
    fin_cases a
    · show r.val < min 512 (16000 - (min (t.val - 8) 31) * 512)
      omega
    · show (b : Fin 192).val < 192
      exact b.isLt
  refine Eq.trans (Eq.trans (dif_pos hm) ?_) ((congrFun (U2_keep m c main_v3 (by decide)) _).trans (v3_apply m c n b))
  blk_simp [iblk1]
  refine congrArg (U2 (F := Ideal) m c (Proc.devRef .tc main_v3)) ?_
  blk_ext [idx1_4]
theorem idx1_5 : ∀ t : Fin cfg1.N, win1_5.index t = ![min (t.val - 7) 31, 0] := (by decide +kernel : ∀ t : Fin grid1.N, _)
theorem xs1_5 : ∀ t : Fin cfg1.N, win1_5.xsize (grid1.coords t) = ![min 512 (16000 - (min (t.val - 7) 31) * 512), 192] := (by decide +kernel : ∀ t : Fin grid1.N, _)
theorem rd5 (t : Fin cfg1.N) (d : (cfg1.win 5).block.Idx → Elt Ideal (cfg1.win 5).elt) (r : Fin 512) (b : Fin 192) (n : Fin 16000) (hn : (min (t.val - 7) 31) * 512 + r.val = n.val) :
    (fblk1 (U2 (F := Ideal) m) c 5 t d : A2 512 192) (ix2 r b) = (m (c.tc.loc main_arg5) : A2 192 16000) (ix2 b n) := by
  have hr := r.isLt
  have hN := n.isLt
  have hm : (cfg1.win 5).moved (cfg1.grid.coords t) (ix2 r b) = true := by
    refine ((cfg1.win 5).moved_iff _ _).mpr fun a => ?_
    have e := congrFun (xs1_5 t) a
    refine lt_of_lt_of_eq ?_ e.symm
    fin_cases a
    · show r.val < min 512 (16000 - (min (t.val - 7) 31) * 512)
      omega
    · show (b : Fin 192).val < 192
      exact b.isLt
  refine Eq.trans (Eq.trans (dif_pos hm) ?_) ((congrFun (U2_keep m c main_v3 (by decide)) _).trans (v3_apply m c n b))
  blk_simp [iblk1]
  refine congrArg (U2 (F := Ideal) m c (Proc.devRef .tc main_v3)) ?_
  blk_ext [idx1_5]
theorem idx1_6 : ∀ t : Fin cfg1.N, win1_6.index t = ![min (t.val - 8) 31, 0] := (by decide +kernel : ∀ t : Fin grid1.N, _)
theorem xs1_6 : ∀ t : Fin cfg1.N, win1_6.xsize (grid1.coords t) = ![min 512 (16000 - (min (t.val - 8) 31) * 512), 1] := (by decide +kernel : ∀ t : Fin grid1.N, _)
theorem rd6 (t : Fin cfg1.N) (d : (cfg1.win 6).block.Idx → Elt Ideal (cfg1.win 6).elt) (r : Fin 512)  (n : Fin 16000) (hn : (min (t.val - 8) 31) * 512 + r.val = n.val) :
    (fblk1 (U2 (F := Ideal) m) c 6 t d : A2 512 1) (ix2 r 0) = (m (c.tc.loc main_arg6) : A1 16000) (ix1 n) := by
  have hr := r.isLt
  have hN := n.isLt
  have hm : (cfg1.win 6).moved (cfg1.grid.coords t) (ix2 r 0) = true := by
    refine ((cfg1.win 6).moved_iff _ _).mpr fun a => ?_
    have e := congrFun (xs1_6 t) a
    refine lt_of_lt_of_eq ?_ e.symm
    fin_cases a
    · show r.val < min 512 (16000 - (min (t.val - 8) 31) * 512)
      omega
    · show (0 : Fin 1).val < 1
      decide
  refine Eq.trans (Eq.trans (dif_pos hm) ?_) ((congrFun (U2_keep m c main_v8 (by decide)) _).trans (v8_apply m c n))
  blk_simp [iblk1]
  refine congrArg (U2 (F := Ideal) m c (Proc.devRef .tc main_v8)) ?_
  blk_ext [idx1_6]
theorem idx1_7 : ∀ t : Fin cfg1.N, win1_7.index t = ![min (t.val - 7) 31, 0] := (by decide +kernel : ∀ t : Fin grid1.N, _)
theorem xs1_7 : ∀ t : Fin cfg1.N, win1_7.xsize (grid1.coords t) = ![min 512 (16000 - (min (t.val - 7) 31) * 512), 1] := (by decide +kernel : ∀ t : Fin grid1.N, _)
theorem rd7 (t : Fin cfg1.N) (d : (cfg1.win 7).block.Idx → Elt Ideal (cfg1.win 7).elt) (r : Fin 512)  (n : Fin 16000) (hn : (min (t.val - 7) 31) * 512 + r.val = n.val) :
    (fblk1 (U2 (F := Ideal) m) c 7 t d : A2 512 1) (ix2 r 0) = (m (c.tc.loc main_arg6) : A1 16000) (ix1 n) := by
  have hr := r.isLt
  have hN := n.isLt
  have hm : (cfg1.win 7).moved (cfg1.grid.coords t) (ix2 r 0) = true := by
    refine ((cfg1.win 7).moved_iff _ _).mpr fun a => ?_
    have e := congrFun (xs1_7 t) a
    refine lt_of_lt_of_eq ?_ e.symm
    fin_cases a
    · show r.val < min 512 (16000 - (min (t.val - 7) 31) * 512)
      omega
    · show (0 : Fin 1).val < 1
      decide
  refine Eq.trans (Eq.trans (dif_pos hm) ?_) ((congrFun (U2_keep m c main_v8 (by decide)) _).trans (v8_apply m c n))
  blk_simp [iblk1]
  refine congrArg (U2 (F := Ideal) m c (Proc.devRef .tc main_v8)) ?_
  blk_ext [idx1_7]
theorem idx1_8 : ∀ t : Fin cfg1.N, win1_8.index t = ![min (t.val - 40) 156, 0] := (by decide +kernel : ∀ t : Fin grid1.N, _)
theorem xs1_8 : ∀ t : Fin cfg1.N, win1_8.xsize (grid1.coords t) = ![min 512 (80000 - (min (t.val - 40) 156) * 512), 48] := (by decide +kernel : ∀ t : Fin grid1.N, _)
theorem rd8 (t : Fin cfg1.N) (d : (cfg1.win 8).block.Idx → Elt Ideal (cfg1.win 8).elt) (r : Fin 512) (b : Fin 48) (n : Fin 80000) (hn : (min (t.val - 40) 156) * 512 + r.val = n.val) :
    (fblk1 (U2 (F := Ideal) m) c 8 t d : A2 512 48) (ix2 r b) = (m (c.tc.loc main_arg9) : A2 48 80000) (ix2 b n) := by
  have hr := r.isLt
  have hN := n.isLt
  have hm : (cfg1.win 8).moved (cfg1.grid.coords t) (ix2 r b) = true := by
    refine ((cfg1.win 8).moved_iff _ _).mpr fun a => ?_
    have e := congrFun (xs1_8 t) a
    refine lt_of_lt_of_eq ?_ e.symm
    fin_cases a
    · show r.val < min 512 (80000 - (min (t.val - 40) 156) * 512)
      omega
    · show (b : Fin 48).val < 48
      exact b.isLt
  refine Eq.trans (Eq.trans (dif_pos hm) ?_) ((congrFun (U2_keep m c main_v4 (by decide)) _).trans (v4_apply m c n b))
  blk_simp [iblk1]
  refine congrArg (U2 (F := Ideal) m c (Proc.devRef .tc main_v4)) ?_
  blk_ext [idx1_8]
theorem idx1_9 : ∀ t : Fin cfg1.N, win1_9.index t = ![min (t.val - 39) 156, 0] := (by decide +kernel : ∀ t : Fin grid1.N, _)
theorem xs1_9 : ∀ t : Fin cfg1.N, win1_9.xsize (grid1.coords t) = ![min 512 (80000 - (min (t.val - 39) 156) * 512), 48] := (by decide +kernel : ∀ t : Fin grid1.N, _)
theorem rd9 (t : Fin cfg1.N) (d : (cfg1.win 9).block.Idx → Elt Ideal (cfg1.win 9).elt) (r : Fin 512) (b : Fin 48) (n : Fin 80000) (hn : (min (t.val - 39) 156) * 512 + r.val = n.val) :
    (fblk1 (U2 (F := Ideal) m) c 9 t d : A2 512 48) (ix2 r b) = (m (c.tc.loc main_arg9) : A2 48 80000) (ix2 b n) := by
  have hr := r.isLt
  have hN := n.isLt
  have hm : (cfg1.win 9).moved (cfg1.grid.coords t) (ix2 r b) = true := by
    refine ((cfg1.win 9).moved_iff _ _).mpr fun a => ?_
    have e := congrFun (xs1_9 t) a
    refine lt_of_lt_of_eq ?_ e.symm
    fin_cases a
    · show r.val < min 512 (80000 - (min (t.val - 39) 156) * 512)
      omega
    · show (b : Fin 48).val < 48
      exact b.isLt
  refine Eq.trans (Eq.trans (dif_pos hm) ?_) ((congrFun (U2_keep m c main_v4 (by decide)) _).trans (v4_apply m c n b))
  blk_simp [iblk1]
  refine congrArg (U2 (F := Ideal) m c (Proc.devRef .tc main_v4)) ?_
  blk_ext [idx1_9]
theorem idx1_10 : ∀ t : Fin cfg1.N, win1_10.index t = ![min (t.val - 40) 156, 0] := (by decide +kernel : ∀ t : Fin grid1.N, _)
theorem xs1_10 : ∀ t : Fin cfg1.N, win1_10.xsize (grid1.coords t) = ![min 512 (80000 - (min (t.val - 40) 156) * 512), 1] := (by decide +kernel : ∀ t : Fin grid1.N, _)
theorem rd10 (t : Fin cfg1.N) (d : (cfg1.win 10).block.Idx → Elt Ideal (cfg1.win 10).elt) (r : Fin 512)  (n : Fin 80000) (hn : (min (t.val - 40) 156) * 512 + r.val = n.val) :
    (fblk1 (U2 (F := Ideal) m) c 10 t d : A2 512 1) (ix2 r 0) = (m (c.tc.loc main_arg10) : A1 80000) (ix1 n) := by
  have hr := r.isLt
  have hN := n.isLt
  have hm : (cfg1.win 10).moved (cfg1.grid.coords t) (ix2 r 0) = true := by
    refine ((cfg1.win 10).moved_iff _ _).mpr fun a => ?_
    have e := congrFun (xs1_10 t) a
    refine lt_of_lt_of_eq ?_ e.symm
    fin_cases a
    · show r.val < min 512 (80000 - (min (t.val - 40) 156) * 512)
      omega
    · show (0 : Fin 1).val < 1
      decide
  refine Eq.trans (Eq.trans (dif_pos hm) ?_) ((congrFun (U2_keep m c main_v9 (by decide)) _).trans (v9_apply m c n))
  blk_simp [iblk1]
  refine congrArg (U2 (F := Ideal) m c (Proc.devRef .tc main_v9)) ?_
  blk_ext [idx1_10]
theorem idx1_11 : ∀ t : Fin cfg1.N, win1_11.index t = ![min (t.val - 39) 156, 0] := (by decide +kernel : ∀ t : Fin grid1.N, _)
theorem xs1_11 : ∀ t : Fin cfg1.N, win1_11.xsize (grid1.coords t) = ![min 512 (80000 - (min (t.val - 39) 156) * 512), 1] := (by decide +kernel : ∀ t : Fin grid1.N, _)
theorem rd11 (t : Fin cfg1.N) (d : (cfg1.win 11).block.Idx → Elt Ideal (cfg1.win 11).elt) (r : Fin 512)  (n : Fin 80000) (hn : (min (t.val - 39) 156) * 512 + r.val = n.val) :
    (fblk1 (U2 (F := Ideal) m) c 11 t d : A2 512 1) (ix2 r 0) = (m (c.tc.loc main_arg10) : A1 80000) (ix1 n) := by
  have hr := r.isLt
  have hN := n.isLt
  have hm : (cfg1.win 11).moved (cfg1.grid.coords t) (ix2 r 0) = true := by
    refine ((cfg1.win 11).moved_iff _ _).mpr fun a => ?_
    have e := congrFun (xs1_11 t) a
    refine lt_of_lt_of_eq ?_ e.symm
    fin_cases a
    · show r.val < min 512 (80000 - (min (t.val - 39) 156) * 512)
      omega
    · show (0 : Fin 1).val < 1
      decide
  refine Eq.trans (Eq.trans (dif_pos hm) ?_) ((congrFun (U2_keep m c main_v9 (by decide)) _).trans (v9_apply m c n))
  blk_simp [iblk1]
  refine congrArg (U2 (F := Ideal) m c (Proc.devRef .tc main_v9)) ?_
  blk_ext [idx1_11]
theorem idx1_1 : ∀ t : Fin cfg1.N, win1_1.index t = ![0, 0] := (by decide +kernel : ∀ t : Fin grid1.N, _)
theorem rd1 (t : Fin cfg1.N) (a : Fin 192) (s : Fin 2048) : (iblk1 (U2 (F := Ideal) m) c 1 t : A2 192 2048) (ix2 a s) = G12 m c (ix2 a s) := by
  refine Eq.trans ?_ ((congrFun (U2_arr m c 12) _).trans (congrFun (arr12 m c) _))
  blk_simp [iblk1]
  refine congrArg (U2 (F := Ideal) m c (Proc.devRef .tc main_v12_1)) ?_
  blk_ext [idx1_1]
theorem idx1_2 : ∀ t : Fin cfg1.N, win1_2.index t = ![0, 0] := (by decide +kernel : ∀ t : Fin grid1.N, _)
theorem rd2 (t : Fin cfg1.N) (a : Fin 48) (s : Fin 2048) : (iblk1 (U2 (F := Ideal) m) c 2 t : A2 48 2048) (ix2 a s) = G13 m c (ix2 a s) := by
  refine Eq.trans ?_ ((congrFun (U2_arr m c 13) _).trans (congrFun (arr13 m c) _))
  blk_simp [iblk1]
  refine congrArg (U2 (F := Ideal) m c (Proc.devRef .tc main_v12_2)) ?_
  blk_ext [idx1_2]
theorem idx1_3 : ∀ t : Fin cfg1.N, win1_3.index t = ![0, 0] := (by decide +kernel : ∀ t : Fin grid1.N, _)
theorem rd3 (t : Fin cfg1.N) (a : Fin 8) (s : Fin 2048) : (iblk1 (U2 (F := Ideal) m) c 3 t : A2 8 2048) (ix2 a s) = ((dat0 (V1 (F := Ideal) m) c).arrAt 14 cfg0.N : A2 8 2048) (ix2 a s) := by
  refine Eq.trans ?_ (congrFun (U2_arr m c 14) _)
  blk_simp [iblk1]
  refine congrArg (U2 (F := Ideal) m c (Proc.devRef .tc main_v12_3)) ?_
  blk_ext [idx1_3]

theorem idx1_12 : ∀ t : Fin cfg1.N, win1_12.index t = ![0, t.val, 0] := (by decide +kernel : ∀ t : Fin grid1.N, _)

end Cert.KernelIdeal.Gen

end
-- ==== Proof.WriteCell.lean ====
module

public import proofs.«01_k».proof.Proof.WritePayload
public import proofs.«01_k».proof.Proof.Spec

@[expose] public section

set_option maxRecDepth 16384

noncomputable section

namespace Cert.KernelIdeal.Gen

open Idealize.ShloMosaic Idealize.ShloMosaic.TcCoe Cert.Soft

/-- Row `r` of a window of 512 rows starting `sh` rows into one block and running on into the next. -/
def rowsAt {D : ℕ} (sh : ℕ) (hsh : sh ≤ 512) (prev cur : A2 512 D) (r : Fin 512) (q : Fin D) : EReal :=
  if h : sh + r.val < 512 then prev (ix2 ⟨sh + r.val, h⟩ q) else cur (ix2 ⟨r.val + sh - 512, by have := r.isLt; omega⟩ q)

/-- What one tail writes at a word and a token. -/
def cell {D : ℕ} (sh : ℕ) (hsh : sh ≤ 512) (wp wc : A2 512 D) (bp bc : A2 512 1) (p : A2 D 2048) (M g : EReal) (r : Fin 512) (s : Fin 2048) : EReal :=
  Ideal.exp (aff (rowsAt sh hsh wp wc r) (fun q => p (ix2 q s)) (rowsAt sh hsh bp bc r 0) - M) * g

theorem pay1w_apply (x : FVec Ideal S512x2048 .f32) (r : Fin 512) (s : Fin 2048) : k1_pay1 (F := Ideal) x (ix3 0 r s) = x (ix2 r s) := by pointwise [k1_pay1]

theorem hi1_apply (W : Vec Ideal S512x192 .f32) (r : Fin 416) (q : Fin 192) : (hi1 (F := Ideal) W : A2 416 192) (ix2 r q) = (W : A2 512 192) (ix2 ⟨96 + r.val, by have := r.isLt; omega⟩ q) := by
  refine congrArg (W : A2 512 192) (funext fun a => Fin.ext ?_)
  fin_cases a
  · show 96 + 1 * r.val = 96 + r.val
    omega
  · show 0 + 1 * q.val = q.val
    omega
theorem lo1_apply (W : Vec Ideal S512x192 .f32) (r : Fin 96) (q : Fin 192) : (lo1 (F := Ideal) W : A2 96 192) (ix2 r q) = (W : A2 512 192) (ix2 ⟨0 + r.val, by have := r.isLt; omega⟩ q) := by
  refine congrArg (W : A2 512 192) (funext fun a => Fin.ext ?_)
  fin_cases a
  · show 0 + 1 * r.val = 0 + r.val
    omega
  · show 0 + 1 * q.val = q.val
    omega
theorem hib1_apply (W : Vec Ideal S512x1 .f32) (r : Fin 416) (q : Fin 1) : (hib1 (F := Ideal) W : A2 416 1) (ix2 r q) = (W : A2 512 1) (ix2 ⟨96 + r.val, by have := r.isLt; omega⟩ q) := by
  refine congrArg (W : A2 512 1) (funext fun a => Fin.ext ?_)
  fin_cases a
  · show 96 + 1 * r.val = 96 + r.val
    omega
  · show 0 + 1 * q.val = q.val
    omega
theorem lob1_apply (W : Vec Ideal S512x1 .f32) (r : Fin 96) (q : Fin 1) : (lob1 (F := Ideal) W : A2 96 1) (ix2 r q) = (W : A2 512 1) (ix2 ⟨0 + r.val, by have := r.isLt; omega⟩ q) := by
  refine congrArg (W : A2 512 1) (funext fun a => Fin.ext ?_)
  fin_cases a
  · show 0 + 1 * r.val = 0 + r.val
    omega
  · show 0 + 1 * q.val = q.val
    omega
theorem hi2_apply (W : Vec Ideal S512x48 .f32) (r : Fin 32) (q : Fin 48) : (hi2 (F := Ideal) W : A2 32 48) (ix2 r q) = (W : A2 512 48) (ix2 ⟨480 + r.val, by have := r.isLt; omega⟩ q) := by
  refine congrArg (W : A2 512 48) (funext fun a => Fin.ext ?_)
  fin_cases a
  · show 480 + 1 * r.val = 480 + r.val
    omega
  · show 0 + 1 * q.val = q.val
    omega
theorem lo2_apply (W : Vec Ideal S512x48 .f32) (r : Fin 480) (q : Fin 48) : (lo2 (F := Ideal) W : A2 480 48) (ix2 r q) = (W : A2 512 48) (ix2 ⟨0 + r.val, by have := r.isLt; omega⟩ q) := by
  refine congrArg (W : A2 512 48) (funext fun a => Fin.ext ?_)
  fin_cases a
  · show 0 + 1 * r.val = 0 + r.val
    omega
  · show 0 + 1 * q.val = q.val
    omega
theorem hib2_apply (W : Vec Ideal S512x1 .f32) (r : Fin 32) (q : Fin 1) : (hib2 (F := Ideal) W : A2 32 1) (ix2 r q) = (W : A2 512 1) (ix2 ⟨480 + r.val, by have := r.isLt; omega⟩ q) := by
  refine congrArg (W : A2 512 1) (funext fun a => Fin.ext ?_)
  fin_cases a
  · show 480 + 1 * r.val = 480 + r.val
    omega
  · show 0 + 1 * q.val = q.val
    omega
theorem lob2_apply (W : Vec Ideal S512x1 .f32) (r : Fin 480) (q : Fin 1) : (lob2 (F := Ideal) W : A2 480 1) (ix2 r q) = (W : A2 512 1) (ix2 ⟨0 + r.val, by have := r.isLt; omega⟩ q) := by
  refine congrArg (W : A2 512 1) (funext fun a => Fin.ext ?_)
  fin_cases a
  · show 0 + 1 * r.val = 0 + r.val
    omega
  · show 0 + 1 * q.val = q.val
    omega
theorem strow0_apply (W : Vec Ideal S8x2048 .f32) (s : Fin 2048) : (strow0 (F := Ideal) W : A2 1 2048) (ix2 0 s) = (W : A2 8 2048) (ix2 0 s) := by
  refine congrArg (W : A2 8 2048) (funext fun a => Fin.ext ?_)
  fin_cases a
  · rfl
  · show 0 + 1 * s.val = s.val
    omega
theorem strow1_apply (W : Vec Ideal S8x2048 .f32) (s : Fin 2048) : (strow1 (F := Ideal) W : A2 1 2048) (ix2 0 s) = (W : A2 8 2048) (ix2 1 s) := by
  refine congrArg (W : A2 8 2048) (funext fun a => Fin.ext ?_)
  fin_cases a
  · rfl
  · show 0 + 1 * s.val = s.val
    omega
theorem strow2_apply (W : Vec Ideal S8x2048 .f32) (s : Fin 2048) : (strow2 (F := Ideal) W : A2 1 2048) (ix2 0 s) = (W : A2 8 2048) (ix2 2 s) := by
  refine congrArg (W : A2 8 2048) (funext fun a => Fin.ext ?_)
  fin_cases a
  · rfl
  · show 0 + 1 * s.val = s.val
    omega
theorem strow3_apply (W : Vec Ideal S8x2048 .f32) (s : Fin 2048) : (strow3 (F := Ideal) W : A2 1 2048) (ix2 0 s) = (W : A2 8 2048) (ix2 3 s) := by
  refine congrArg (W : A2 8 2048) (funext fun a => Fin.ext ?_)
  fin_cases a
  · rfl
  · show 0 + 1 * s.val = s.val
    omega
theorem rows1_eq {D : ℕ} (hi : A2 416 D) (lo : A2 96 D) (wp wc : A2 512 D) (hhi : ∀ (r : Fin 416) q, hi (ix2 r q) = wp (ix2 ⟨96 + r.val, by have := r.isLt; omega⟩ q))
    (hlo : ∀ (r : Fin 96) q, lo (ix2 r q) = wc (ix2 ⟨0 + r.val, by have := r.isLt; omega⟩ q)) (r : Fin 512) (q : Fin D) :
    (if h : r.val < 416 then hi (ix2 ⟨r.val, h⟩ q) else lo (ix2 ⟨r.val - 416, by have := r.isLt; omega⟩ q)) = rowsAt 96 (by omega) wp wc r q := by
  unfold rowsAt
  by_cases h : r.val < 416
  · rw [dif_pos h, dif_pos (by omega), hhi]
  · rw [dif_neg h, dif_neg (by omega), hlo]
    exact congrArg (fun k => wc (ix2 k q)) (Fin.ext (by show 0 + (r.val - 416) = r.val + 96 - 512; omega))
theorem rows2_eq {D : ℕ} (hi : A2 32 D) (lo : A2 480 D) (wp wc : A2 512 D) (hhi : ∀ (r : Fin 32) q, hi (ix2 r q) = wp (ix2 ⟨480 + r.val, by have := r.isLt; omega⟩ q))
    (hlo : ∀ (r : Fin 480) q, lo (ix2 r q) = wc (ix2 ⟨0 + r.val, by have := r.isLt; omega⟩ q)) (r : Fin 512) (q : Fin D) :
    (if h : r.val < 32 then hi (ix2 ⟨r.val, h⟩ q) else lo (ix2 ⟨r.val - 32, by have := r.isLt; omega⟩ q)) = rowsAt 480 (by omega) wp wc r q := by
  unfold rowsAt
  by_cases h : r.val < 32
  · rw [dif_pos h, dif_pos (by omega), hhi]
  · rw [dif_neg h, dif_neg (by omega), hlo]
    exact congrArg (fun k => wc (ix2 k q)) (Fin.ext (by show 0 + (r.val - 32) = r.val + 480 - 512; omega))

theorem pay7w_apply (hi : FVec Ideal S416x192 .f32) (lo : FVec Ideal S96x192 .f32) (hb : FVec Ideal S416x1 .f32) (lb : FVec Ideal S96x1 .f32) (p : FVec Ideal S192x2048 .bf16) (m g : FVec Ideal S1x2048 .f32) (r : Fin 512) (s : Fin 2048) : k1_pay7 (F := Ideal) hi lo hb lb p m g (ix2 r s)
    = Ideal.exp (aff (fun q => if h : r.val < 416 then hi (ix2 ⟨r.val, h⟩ q) else lo (ix2 ⟨r.val - 416, by have := r.isLt; omega⟩ q)) (fun q => p (ix2 q s))
        (if h : r.val < 416 then hb (ix2 ⟨r.val, h⟩ 0) else lb (ix2 ⟨r.val - 416, by have := r.isLt; omega⟩ 0)) - m (ix2 0 s)) * g (ix2 0 s) := by
  pointwise [k1_pay7]
  simp only [aff]
theorem pay2w_apply (hi : FVec Ideal S416x192 .f32) (lo : FVec Ideal S96x192 .f32) (hb : FVec Ideal S416x1 .f32) (lb : FVec Ideal S96x1 .f32) (p : FVec Ideal S192x2048 .bf16) (m g : FVec Ideal S1x2048 .f32) (r : Fin 512) (s : Fin 2048) : k1_pay2 (F := Ideal) hi lo hb lb p m g (ix3 0 r s) = k1_pay7 (F := Ideal) hi lo hb lb p m g (ix2 r s) := by
  pointwise [k1_pay2, k1_pay7]
theorem pay5w_apply (b : BitVec 32) (x : FVec Ideal S512x2048 .f32) (hi : FVec Ideal S416x192 .f32) (lo : FVec Ideal S96x192 .f32) (hb : FVec Ideal S416x1 .f32) (lb : FVec Ideal S96x1 .f32) (p : FVec Ideal S192x2048 .bf16) (m g : FVec Ideal S1x2048 .f32) (r : Fin 512) (s : Fin 2048) : k1_pay5 (F := Ideal) b x hi lo hb lb p m g (ix3 0 r s)
    = Scalar.select (IntOp.cmpi .slt (IntOp.addi (Scalar.muli b 512#32) (BitVec.ofNat 32 r.val)) 4000#32) (x (ix2 r s)) (k1_pay7 (F := Ideal) hi lo hb lb p m g (ix2 r s)) := by
  pointwise [k1_pay5, k1_pay7]
theorem pay6w_apply (b : BitVec 32) (r : Fin 512) : k1_pay6 b (ix2 r 0) = IntOp.cmpi .slt (IntOp.addi (Scalar.muli b 512#32) (BitVec.ofNat 32 r.val)) 20000#32 := by
  pointwise [k1_pay6]
theorem pay4w_apply (hi : FVec Ideal S32x48 .f32) (lo : FVec Ideal S480x48 .f32) (hb : FVec Ideal S32x1 .f32) (lb : FVec Ideal S480x1 .f32) (p : FVec Ideal S48x2048 .bf16) (m g : FVec Ideal S1x2048 .f32) (r : Fin 512) (s : Fin 2048) : k1_pay4 (F := Ideal) hi lo hb lb p m g (ix3 0 r s)
    = Ideal.exp (aff (fun q => if h : r.val < 32 then hi (ix2 ⟨r.val, h⟩ q) else lo (ix2 ⟨r.val - 32, by have := r.isLt; omega⟩ q)) (fun q => p (ix2 q s))
        (if h : r.val < 32 then hb (ix2 ⟨r.val, h⟩ 0) else lb (ix2 ⟨r.val - 32, by have := r.isLt; omega⟩ 0)) - m (ix2 0 s)) * g (ix2 0 s) := by
  pointwise [k1_pay4]
  simp only [aff]
theorem pay3w_apply (v : IVec S512x1 1) (x : FVec Ideal S512x2048 .f32) (hi : FVec Ideal S32x48 .f32) (lo : FVec Ideal S480x48 .f32) (hb : FVec Ideal S32x1 .f32) (lb : FVec Ideal S480x1 .f32) (p : FVec Ideal S48x2048 .bf16) (m g : FVec Ideal S1x2048 .f32) (r : Fin 512) (s : Fin 2048) : k1_pay3 (F := Ideal) v x (k1_pay8 hi lo) hb lb p m g (ix3 0 r s)
    = Scalar.select (v (ix2 r 0)) (x (ix2 r s)) (k1_pay4 (F := Ideal) hi lo hb lb p m g (ix3 0 r s)) := by
  pointwise [k1_pay3, k1_pay4, k1_pay8]

theorem below7 : ∀ r : Fin 512, IntOp.cmpi .slt (IntOp.addi (Scalar.muli (BitVec.ofNat 32 7) 512#32) (BitVec.ofNat 32 r.val)) 4000#32 = if r.val < 416 then 1#1 else 0#1 := by decide +kernel
theorem below39 : ∀ r : Fin 512, IntOp.cmpi .slt (IntOp.addi (Scalar.muli (BitVec.ofNat 32 39) 512#32) (BitVec.ofNat 32 r.val)) 20000#32 = if r.val < 32 then 1#1 else 0#1 := by decide +kernel

theorem tail1 (wp wc : Vec Ideal S512x192 .f32) (bp bc : Vec Ideal S512x1 .f32) (p : Vec Ideal S192x2048 .bf16) (st : Vec Ideal S8x2048 .f32) (r : Fin 512) (s : Fin 2048) :
    k1_pay7 (F := Ideal) (hi1 wp) (lo1 wc) (hib1 bp) (lob1 bc) p (strow0 st) (strow1 st) (ix2 r s)
      = cell (D := 192) 96 (by omega) wp wc bp bc p ((st : A2 8 2048) (ix2 0 s)) ((st : A2 8 2048) (ix2 1 s)) r s := by
  refine (pay7w_apply _ _ _ _ _ _ _ r s).trans ?_
  have h1 := fun q => rows1_eq (hi1 (F := Ideal) wp) (lo1 (F := Ideal) wc) wp wc (hi1_apply wp) (lo1_apply wc) r q
  have h2 := rows1_eq (hib1 (F := Ideal) bp) (lob1 (F := Ideal) bc) bp bc (hib1_apply bp) (lob1_apply bc) r 0
  rw [funext h1, h2, strow0_apply, strow1_apply]
  rfl
theorem tail2 (wp wc : Vec Ideal S512x48 .f32) (bp bc : Vec Ideal S512x1 .f32) (p : Vec Ideal S48x2048 .bf16) (st : Vec Ideal S8x2048 .f32) (r : Fin 512) (s : Fin 2048) :
    k1_pay4 (F := Ideal) (hi2 wp) (lo2 wc) (hib2 bp) (lob2 bc) p (strow2 st) (strow3 st) (ix3 0 r s)
      = cell (D := 48) 480 (by omega) wp wc bp bc p ((st : A2 8 2048) (ix2 2 s)) ((st : A2 8 2048) (ix2 3 s)) r s := by
  refine (pay4w_apply _ _ _ _ _ _ _ r s).trans ?_
  have h1 := fun q => rows2_eq (hi2 (F := Ideal) wp) (lo2 (F := Ideal) wc) wp wc (hi2_apply wp) (lo2_apply wc) r q
  have h2 := rows2_eq (hib2 (F := Ideal) bp) (lob2 (F := Ideal) bc) bp bc (hib2_apply bp) (lob2_apply bc) r 0
  rw [funext h1, h2, strow2_apply, strow3_apply]
  rfl

/-- What the second kernel writes at a word and a token: the word's number picks the head, the first tail or the second. -/
theorem out1_apply (i : grid1.Coords) (x0 : Vec Ideal S512x2048 .f32) (x1 : Vec Ideal S192x2048 .bf16) (x2 : Vec Ideal S48x2048 .bf16) (x3 : Vec Ideal S8x2048 .f32) (x4 : Vec Ideal S512x192 .f32) (x5 : Vec Ideal S512x192 .f32) (x6 : Vec Ideal S512x1 .f32) (x7 : Vec Ideal S512x1 .f32) (x8 : Vec Ideal S512x48 .f32) (x9 : Vec Ideal S512x48 .f32) (x10 : Vec Ideal S512x1 .f32) (x11 : Vec Ideal S512x1 .f32) (r : Fin 512) (s : Fin 2048) :
    (out1 (F := Ideal) i x0 x1 x2 x3 x4 x5 x6 x7 x8 x9 x10 x11 : A3 1 512 2048) (ix3 0 r s)
      = if (i 1).val * 512 + r.val < 4000 then (x0 : A2 512 2048) (ix2 r s)
        else if (i 1).val * 512 + r.val < 20000 then cell (D := 192) 96 (by omega) x4 x5 x6 x7 x1 ((x3 : A2 8 2048) (ix2 0 s)) ((x3 : A2 8 2048) (ix2 1 s)) r s
        else cell (D := 48) 480 (by omega) x8 x9 x10 x11 x2 ((x3 : A2 8 2048) (ix2 2 s)) ((x3 : A2 8 2048) (ix2 3 s)) r s := by
  have hr := r.isLt
  unfold out1
  by_cases h1 : (i 1).val < 7
  · rw [if_pos h1, if_pos (by omega)]
    exact pay1w_apply _ r s
  rw [if_neg h1]
  by_cases h2 : (i 1).val = 7
  · rw [if_pos h2, h2]
    refine (pay5w_apply _ _ _ _ _ _ _ _ _ r s).trans ?_
    rw [below7, tail1]
    by_cases hc : r.val < 416
    · rw [if_pos hc, if_pos (by omega)]; rfl
    · rw [if_neg hc, if_neg (by omega), if_pos (by omega)]; rfl
  rw [if_neg h2]
  by_cases h3 : (i 1).val < 39
  · rw [if_pos h3, if_neg (by omega), if_pos (by omega)]
    exact (pay2w_apply _ _ _ _ _ _ _ r s).trans (tail1 _ _ _ _ _ _ r s)
  rw [if_neg h3]
  by_cases h4 : (i 1).val = 39
  · rw [if_pos h4, h4]
    refine (pay3w_apply _ _ _ _ _ _ _ _ _ r s).trans ?_
    have h0 : ¬ 39 * 512 + r.val < 4000 := by omega
    rw [pay6w_apply, below39, tail1, tail2, if_neg h0]
    by_cases hc : r.val < 32
    · rw [if_pos hc, if_pos (by omega)]; rfl
    · rw [if_neg hc, if_neg (by omega)]; rfl
  have h5 : ¬ (i 1).val * 512 + r.val < 4000 := by omega
  have h6 : ¬ (i 1).val * 512 + r.val < 20000 := by omega
  rw [if_neg h4, if_neg h5, if_neg h6]
  exact tail2 _ _ _ _ _ _ r s

end Cert.KernelIdeal.Gen

end
-- ==== Proof.WriteValue.lean ====
module

public import proofs.«01_k».proof.Proof.WriteArr
public import proofs.«01_k».proof.Proof.WriteCell
public import Idealize.ShloMosaic.Lib.Pipeline.ArrRel
public import Idealize.ShloMosaic.Lib.Pointwise

@[expose] public section

set_option maxRecDepth 16384

noncomputable section

namespace Cert.KernelIdeal.Gen

open Idealize.ShloMosaic Idealize.ShloMosaic.TcCoe Idealize.ShloMosaic.Tactic Idealize.ShloMosaic.StableHlo Cert.Soft

variable (m : (ℓ : Loc nD τ sig) → Buf (Elt Ideal) ℓ) (c : Dev nD)

/-- Every element of the eleven arguments is an ordinary real number. -/
structure Reals : Prop where
  r0 : ∀ i, IsR ((m (c.tc.loc main_arg0) : A3 1 2048 768) i)
  r1 : ∀ i, IsR ((m (c.tc.loc main_arg1) : A2 768 4002) i)
  r2 : ∀ i, IsR ((m (c.tc.loc main_arg2) : A1 4002) i)
  r3 : ∀ i, IsR ((m (c.tc.loc main_arg3) : A2 768 192) i)
  r4 : ∀ i, IsR ((m (c.tc.loc main_arg4) : A1 192) i)
  r5 : ∀ i, IsR ((m (c.tc.loc main_arg5) : A2 192 16000) i)
  r6 : ∀ i, IsR ((m (c.tc.loc main_arg6) : A1 16000) i)
  r7 : ∀ i, IsR ((m (c.tc.loc main_arg7) : A2 768 48) i)
  r8 : ∀ i, IsR ((m (c.tc.loc main_arg8) : A1 48) i)
  r9 : ∀ i, IsR ((m (c.tc.loc main_arg9) : A2 48 80000) i)
  r10 : ∀ i, IsR ((m (c.tc.loc main_arg10) : A1 80000) i)

variable {m c}

theorem head_isR (h : Reals m c) (s : Fin 2048) (d : Fin 4002) : IsR (dense (m (c.tc.loc main_arg0)) (m (c.tc.loc main_arg1)) (m (c.tc.loc main_arg2)) s d) := dense_isR h.r0 h.r1 h.r2 s d
theorem zc1_isR (h : Reals m c) (s : Fin 2048) (j : ℕ) (t : Fin 3200) : IsR (zc (m (c.tc.loc main_arg0)) (m (c.tc.loc main_arg3)) (m (c.tc.loc main_arg4)) (m (c.tc.loc main_arg5)) (m (c.tc.loc main_arg6)) s j t) := by
  unfold zc
  by_cases hj : j * 3200 + t.val < 16000
  · rw [dif_pos hj]; exact logits_isR h.r0 h.r3 h.r4 h.r5 h.r6 s _
  · rw [dif_neg hj]; exact IsR.coe 0
theorem gated1 (h : Reals m c) (s : Fin 2048) (g : EReal) (hg : IsR g) (n : Fin 16000) :
    Ideal.exp (logits (m (c.tc.loc main_arg0)) (m (c.tc.loc main_arg3)) (m (c.tc.loc main_arg4)) (m (c.tc.loc main_arg5)) (m (c.tc.loc main_arg6)) s n - (run neg (zc (m (c.tc.loc main_arg0)) (m (c.tc.loc main_arg3)) (m (c.tc.loc main_arg4)) (m (c.tc.loc main_arg5)) (m (c.tc.loc main_arg6)) s) 5).1) * Ideal.div g (run neg (zc (m (c.tc.loc main_arg0)) (m (c.tc.loc main_arg3)) (m (c.tc.loc main_arg4)) (m (c.tc.loc main_arg5)) (m (c.tc.loc main_arg6)) s) 5).2
      = soft (logits (m (c.tc.loc main_arg0)) (m (c.tc.loc main_arg3)) (m (c.tc.loc main_arg4)) (m (c.tc.loc main_arg5)) (m (c.tc.loc main_arg6)) s) n * g :=
  run_gated (J := 5) (by norm_num) neg neg_isR (logits (m (c.tc.loc main_arg0)) (m (c.tc.loc main_arg3)) (m (c.tc.loc main_arg4)) (m (c.tc.loc main_arg5)) (m (c.tc.loc main_arg6)) s) (fun v => logits_isR h.r0 h.r3 h.r4 h.r5 h.r6 s v) (zc (m (c.tc.loc main_arg0)) (m (c.tc.loc main_arg3)) (m (c.tc.loc main_arg4)) (m (c.tc.loc main_arg5)) (m (c.tc.loc main_arg6)) s)
    (fun j t hj => dif_pos hj) (zc1_isR h s) g hg n
theorem zc2_isR (h : Reals m c) (s : Fin 2048) (j : ℕ) (t : Fin 3200) : IsR (zc (m (c.tc.loc main_arg0)) (m (c.tc.loc main_arg7)) (m (c.tc.loc main_arg8)) (m (c.tc.loc main_arg9)) (m (c.tc.loc main_arg10)) s j t) := by
  unfold zc
  by_cases hj : j * 3200 + t.val < 80000
  · rw [dif_pos hj]; exact logits_isR h.r0 h.r7 h.r8 h.r9 h.r10 s _
  · rw [dif_neg hj]; exact IsR.coe 0
theorem gated2 (h : Reals m c) (s : Fin 2048) (g : EReal) (hg : IsR g) (n : Fin 80000) :
    Ideal.exp (logits (m (c.tc.loc main_arg0)) (m (c.tc.loc main_arg7)) (m (c.tc.loc main_arg8)) (m (c.tc.loc main_arg9)) (m (c.tc.loc main_arg10)) s n - (run neg (zc (m (c.tc.loc main_arg0)) (m (c.tc.loc main_arg7)) (m (c.tc.loc main_arg8)) (m (c.tc.loc main_arg9)) (m (c.tc.loc main_arg10)) s) 25).1) * Ideal.div g (run neg (zc (m (c.tc.loc main_arg0)) (m (c.tc.loc main_arg7)) (m (c.tc.loc main_arg8)) (m (c.tc.loc main_arg9)) (m (c.tc.loc main_arg10)) s) 25).2
      = soft (logits (m (c.tc.loc main_arg0)) (m (c.tc.loc main_arg7)) (m (c.tc.loc main_arg8)) (m (c.tc.loc main_arg9)) (m (c.tc.loc main_arg10)) s) n * g :=
  run_gated (J := 25) (by norm_num) neg neg_isR (logits (m (c.tc.loc main_arg0)) (m (c.tc.loc main_arg7)) (m (c.tc.loc main_arg8)) (m (c.tc.loc main_arg9)) (m (c.tc.loc main_arg10)) s) (fun v => logits_isR h.r0 h.r7 h.r8 h.r9 h.r10 s v) (zc (m (c.tc.loc main_arg0)) (m (c.tc.loc main_arg7)) (m (c.tc.loc main_arg8)) (m (c.tc.loc main_arg9)) (m (c.tc.loc main_arg10)) s)
    (fun j t hj => dif_pos hj) (zc2_isR h s) g hg n

theorem rows_split {D N : ℕ} {sh : ℕ} {hsh : sh ≤ 512} {prev cur : A2 512 D} {r : Fin 512} {q : Fin D} {x : EReal}
    (hp : ∀ h : sh + r.val < 512, prev (ix2 ⟨sh + r.val, h⟩ q) = x)
    (hc : ¬ sh + r.val < 512 → cur (ix2 ⟨r.val + sh - 512, by have := r.isLt; omega⟩ q) = x) : rowsAt sh hsh prev cur r q = x := by
  unfold rowsAt
  by_cases h : sh + r.val < 512
  · rw [dif_pos h]; exact hp h
  · rw [dif_neg h]; exact hc h

/-- What a point leaves at a row of its block inside the result, at a token: the formula at the row's word. -/
theorem left_word (h : Reals m c) (t : Fin cfg1.N) (X : A3 1 512 2048) (hX : Left1 (U2 (F := Ideal) m) c t X) (r : Fin 512) (s : Fin 2048) (v : Fin 100000)
    (hv : t.val * 512 + r.val = v.val) : X (ix3 0 r s) = word (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) s v := by
  obtain ⟨d0, d4, d5, d6, d7, d8, d9, d10, d11, rfl⟩ := hX
  have hr := r.isLt
  have hvl := v.isLt
  refine (out1_apply (grid1.coords t) _ _ _ _ _ _ _ _ _ _ _ _ r s).trans ?_
  rw [coords1 t, hv]
  unfold word
  by_cases h1 : v.val < 4000
  · have h2 : v.val < 20000 := by omega
    rw [if_pos h1, dif_pos h2, dif_pos h1]
    refine (rd0 m c t d0 r s ⟨v.val, by omega⟩ (by show min t.val 7 * 512 + r.val = v.val; omega)).trans ?_
    exact softInv_eq _ (head_isR h s) _
  rw [if_neg h1]
  by_cases h2 : v.val < 20000
  · rw [if_pos h2, dif_pos h2, dif_neg h1]
    have hw : ∀ q : Fin 192, rowsAt 96 (by omega) (fblk1 (U2 (F := Ideal) m) c 4 t d4) (fblk1 (U2 (F := Ideal) m) c 5 t d5) r q = (m (c.tc.loc main_arg5) : A2 192 16000) (ix2 q ⟨v.val - 4000, by omega⟩) := fun q =>
      rows_split (N := 16000) (fun hp => rd4 m c t d4 _ q ⟨v.val - 4000, by omega⟩ (by show min (t.val - 8) 31 * 512 + (96 + r.val) = v.val - 4000; omega))
        (fun hp => rd5 m c t d5 _ q ⟨v.val - 4000, by omega⟩ (by show min (t.val - 7) 31 * 512 + (r.val + 96 - 512) = v.val - 4000; omega))
    have hb : rowsAt 96 (by omega) (fblk1 (U2 (F := Ideal) m) c 6 t d6) (fblk1 (U2 (F := Ideal) m) c 7 t d7) r (0 : Fin 1) = (m (c.tc.loc main_arg6) : A1 16000) (ix1 ⟨v.val - 4000, by omega⟩) :=
      rows_split (N := 16000) (fun hp => rd6 m c t d6 _ ⟨v.val - 4000, by omega⟩ (by show min (t.val - 8) 31 * 512 + (96 + r.val) = v.val - 4000; omega))
        (fun hp => rd7 m c t d7 _ ⟨v.val - 4000, by omega⟩ (by show min (t.val - 7) 31 * 512 + (r.val + 96 - 512) = v.val - 4000; omega))
    have hp : ∀ q : Fin 192, (iblk1 (U2 (F := Ideal) m) c 1 t : A2 192 2048) (ix2 q s) = dense (m (c.tc.loc main_arg0)) (m (c.tc.loc main_arg3)) (m (c.tc.loc main_arg4)) s q := fun q => rd1 m c t q s
    have hM := (rd3 m c t 0 s).trans (arr14_0 m c s)
    have hg := (rd3 m c t 1 s).trans (arr14_1 m c s)
    refine Eq.trans ?_ ((gated1 h s (softInv (dense (m (c.tc.loc main_arg0)) (m (c.tc.loc main_arg1)) (m (c.tc.loc main_arg2)) s) 4000) (by rw [softInv_eq _ (head_isR h s)]; exact soft_isR _ (head_isR h s) _) ⟨v.val - 4000, by omega⟩).trans
      (by rw [softInv_eq _ (head_isR h s)]))
    unfold cell logits
    rw [funext hw, hb, funext hp, hM, hg, aff_comm]
  · rw [if_neg h2, dif_neg h2]
    have hw : ∀ q : Fin 48, rowsAt 480 (by omega) (fblk1 (U2 (F := Ideal) m) c 8 t d8) (fblk1 (U2 (F := Ideal) m) c 9 t d9) r q = (m (c.tc.loc main_arg9) : A2 48 80000) (ix2 q ⟨v.val - 20000, by omega⟩) := fun q =>
      rows_split (N := 80000) (fun hp => rd8 m c t d8 _ q ⟨v.val - 20000, by omega⟩ (by show min (t.val - 40) 156 * 512 + (480 + r.val) = v.val - 20000; omega))
        (fun hp => rd9 m c t d9 _ q ⟨v.val - 20000, by omega⟩ (by show min (t.val - 39) 156 * 512 + (r.val + 480 - 512) = v.val - 20000; omega))
    have hb : rowsAt 480 (by omega) (fblk1 (U2 (F := Ideal) m) c 10 t d10) (fblk1 (U2 (F := Ideal) m) c 11 t d11) r (0 : Fin 1) = (m (c.tc.loc main_arg10) : A1 80000) (ix1 ⟨v.val - 20000, by omega⟩) :=
      rows_split (N := 80000) (fun hp => rd10 m c t d10 _ ⟨v.val - 20000, by omega⟩ (by show min (t.val - 40) 156 * 512 + (480 + r.val) = v.val - 20000; omega))
        (fun hp => rd11 m c t d11 _ ⟨v.val - 20000, by omega⟩ (by show min (t.val - 39) 156 * 512 + (r.val + 480 - 512) = v.val - 20000; omega))
    have hp : ∀ q : Fin 48, (iblk1 (U2 (F := Ideal) m) c 2 t : A2 48 2048) (ix2 q s) = dense (m (c.tc.loc main_arg0)) (m (c.tc.loc main_arg7)) (m (c.tc.loc main_arg8)) s q := fun q => rd2 m c t q s
    have hM := (rd3 m c t 2 s).trans (arr14_2 m c s)
    have hg := (rd3 m c t 3 s).trans (arr14_3 m c s)
    refine Eq.trans ?_ ((gated2 h s (softInv (dense (m (c.tc.loc main_arg0)) (m (c.tc.loc main_arg1)) (m (c.tc.loc main_arg2)) s) 4001) (by rw [softInv_eq _ (head_isR h s)]; exact soft_isR _ (head_isR h s) _) ⟨v.val - 20000, by omega⟩).trans
      (by rw [softInv_eq _ (head_isR h s)]))
    unfold cell logits
    rw [funext hw, hb, funext hp, hM, hg, aff_comm]

/-- The second region's result at a word and a token. -/
theorem v13_word (h : Reals m c) (G : A3 1 100000 2048) (hG : Ends1 (F := Ideal) m c G) (v : Fin 100000) (s : Fin 2048) : G (ix3 0 v s) = word (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) s v := by
  obtain ⟨X, hX, hA⟩ := Pipeline.RDat.ArrAt.exists_exact hG
  have e := hA (Function.update (fun _ _ _ => Classical.choice inferInstance) 12 X) (fun u _ _ => by rw [Function.update_self])
  have key := (((dat1 (U2 (F := Ideal) m) c).toRRel fgt1 (Rl1 (U2 (F := Ideal) m) c)).withAfter (Function.update (fun _ _ _ => Classical.choice inferInstance) 12 X)).arrAt_forall_of_covers 12
    (fun (i : (⟨3, ![1, 100000, 2048]⟩ : Shape).Idx) (y : EReal) => ∀ v s, i = ix3 0 v s → y = word (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) s v) (by decide +kernel)
    (fun t hf y => by
      blk_simp
      intro v s hs
      have hL : Left1 (U2 (F := Ideal) m) c t (X t) := Pipeline.Dat.toRRel_leaves (dat1 (U2 (F := Ideal) m) c) rfl (hX t t.isLt hf)
      have hv : t.val * 512 + (y 1).val = v.val := by
        have e1 := congrArg (fun i : (⟨3, ![1, 100000, 2048]⟩ : Shape).Idx => (i 1).val) hs
        blk_simp [idx1_12] at e1
        exact e1
      have hs' : (y 2).val = s.val := by
        have e1 := congrArg (fun i : (⟨3, ![1, 100000, 2048]⟩ : Shape).Idx => (i 2).val) hs
        blk_simp [idx1_12] at e1
        exact e1
      have hb : (y 1).val < 512 := lt_of_lt_of_le (y 1).isLt ((cfg1.win 12).xsize_le (cfg1.grid.coords t) 1)
      have hy : (cfg1.win 12).xinj (cfg1.grid.coords t) y = (ix3 0 ⟨(y 1).val, hb⟩ s : (⟨3, ![1, 512, 2048]⟩ : Shape).Idx) := by
        funext a
        apply Fin.ext
        fin_cases a
        · have h0 : (y 0).val < 1 := lt_of_lt_of_le (y 0).isLt ((cfg1.win 12).xsize_le (cfg1.grid.coords t) 0)
          exact Nat.lt_one_iff.mp h0
        · rfl
        · exact hs'
      refine Eq.trans ?_ (left_word h t (X t) hL ⟨(y 1).val, hb⟩ s v hv)
      rw [hy]
      rfl)
  rw [e]
  exact key (ix3 0 v s) v s rfl

/-- The kernel's result at a token and a word. -/
theorem v14_word (h : Reals m c) (G : A3 1 100000 2048) (hG : Ends1 (F := Ideal) m c G) (s : Fin 2048) (v : Fin 100000) :
    (StableHlo.after hostOps2 (U3 (F := Ideal) m c G) (Proc.devRef .tc main_v14) : A3 1 2048 100000) (ix3 0 s v) = word (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) s v := by
  have e : (StableHlo.after hostOps2 (U3 (F := Ideal) m c G) (Proc.devRef .tc main_v14) : FVec Ideal S1x2048x100000 .f32)
      = transpose S1x2048x100000 [0, 2, 1] (U3 (F := Ideal) m c G (Proc.devRef .tc main_v13)) transposes_S1x100000x2048_S1x2048x100000_0_2_1 := by
    after_results_simp
  rw [e, U3_v13]
  refine Eq.trans ?_ (v13_word h G hG v s)
  pointwise

end Cert.KernelIdeal.Gen

end
-- ==== Proof.RefValue.lean ====
module

public import proofs.«01_k».proof.Proof.Gen.ReferenceIdeal.Run
public import proofs.«01_k».proof.Proof.Spec

@[expose] public section

set_option maxRecDepth 16384

noncomputable section

namespace Cert.ReferenceIdeal.Value

open Cert.ReferenceIdeal Cert.ReferenceIdeal.Gen Idealize.ShloMosaic Idealize.ShloMosaic.TcCoe Cert.Soft

/-- Each row's largest entry. -/
def mx4002 (z : FVec Ideal S1x2048x4002 .f32) : FVec Ideal S1x2048 .f32 :=
  Host.reduce FloatOps.maximumf z (constant S_ .f32 0xFF800000#32) reducesTo_S1x2048x4002_S1x2048_d2 h_S_
/-- The exponentials of a row taken from `y`. -/
def ex4002 (z : FVec Ideal S1x2048x4002 .f32) (y : FVec Ideal S1x2048 .f32) : FVec Ideal S1x2048x4002 .f32 :=
  Host.exp (subf z (broadcastInDim S1x2048x4002 ![0, 1, 2] bcast_S1x2048x1_S1x2048x4002_0_1_2 (broadcastInDim S1x2048x1 ![0, 1] bcast_S1x2048_S1x2048x1_0_1
    (maximumf (broadcastInDim S1x2048 ![] bcast_S_S1x2048 (constant S_ .f32 0xFF800000#32)) y))))
/-- Each row summed. -/
def sm4002 (z : FVec Ideal S1x2048x4002 .f32) : FVec Ideal S1x2048 .f32 :=
  Host.reduceAdd z (constant S_ .f32 0x00000000#32) reducesTo_S1x2048x4002_S1x2048_d2 h_S_
/-- A row over one number. -/
def dv4002 (z : FVec Ideal S1x2048x4002 .f32) (y : FVec Ideal S1x2048 .f32) : FVec Ideal S1x2048x4002 .f32 :=
  Host.divf z (broadcastInDim S1x2048x4002 ![0, 1, 2] bcast_S1x2048x1_S1x2048x4002_0_1_2 (broadcastInDim S1x2048x1 ![0, 1] bcast_S1x2048_S1x2048x1_0_1 y))
/-- The rows' softmax. -/
def smx4002 (z : FVec Ideal S1x2048x4002 .f32) : FVec Ideal S1x2048x4002 .f32 := dv4002 (ex4002 z (mx4002 z)) (sm4002 (ex4002 z (mx4002 z)))

theorem mx4002_apply (z : FVec Ideal S1x2048x4002 .f32) (s : Fin 2048) : mx4002 z (ix2 0 s) = top (fun v => z (ix3 0 s v)) := by
  pointwise [mx4002]
  simp only [negInf_eq, top]
theorem ex4002_apply (z : FVec Ideal S1x2048x4002 .f32) (y : FVec Ideal S1x2048 .f32) (s : Fin 2048) (v : Fin 4002) :
    ex4002 z y (ix3 0 s v) = Ideal.exp (z (ix3 0 s v) - y (ix2 0 s)) := by
  pointwise [ex4002]
  simp only [negInf_eq, max_bot_left]
theorem sm4002_apply (z : FVec Ideal S1x2048x4002 .f32) (s : Fin 2048) : sm4002 z (ix2 0 s) = ∑ v, z (ix3 0 s v) := by
  pointwise [sm4002]
theorem dv4002_apply (z : FVec Ideal S1x2048x4002 .f32) (y : FVec Ideal S1x2048 .f32) (s : Fin 2048) (v : Fin 4002) :
    dv4002 z y (ix3 0 s v) = Ideal.div (z (ix3 0 s v)) (y (ix2 0 s)) := by
  pointwise [dv4002]
theorem smx4002_apply (z : FVec Ideal S1x2048x4002 .f32) (s : Fin 2048) (v : Fin 4002) : smx4002 z (ix3 0 s v) = soft (fun v => z (ix3 0 s v)) v := by
  unfold smx4002 soft mass
  rw [dv4002_apply, sm4002_apply, ex4002_apply, mx4002_apply]
  refine congrArg _ (Finset.sum_congr rfl fun k _ => ?_)
  rw [ex4002_apply, mx4002_apply]

/-- Each row's largest entry. -/
def mx16000 (z : FVec Ideal S1x2048x16000 .f32) : FVec Ideal S1x2048 .f32 :=
  Host.reduce FloatOps.maximumf z (constant S_ .f32 0xFF800000#32) reducesTo_S1x2048x16000_S1x2048_d2 h_S_
/-- The exponentials of a row taken from `y`. -/
def ex16000 (z : FVec Ideal S1x2048x16000 .f32) (y : FVec Ideal S1x2048 .f32) : FVec Ideal S1x2048x16000 .f32 :=
  Host.exp (subf z (broadcastInDim S1x2048x16000 ![0, 1, 2] bcast_S1x2048x1_S1x2048x16000_0_1_2 (broadcastInDim S1x2048x1 ![0, 1] bcast_S1x2048_S1x2048x1_0_1
    (maximumf (broadcastInDim S1x2048 ![] bcast_S_S1x2048 (constant S_ .f32 0xFF800000#32)) y))))
/-- Each row summed. -/
def sm16000 (z : FVec Ideal S1x2048x16000 .f32) : FVec Ideal S1x2048 .f32 :=
  Host.reduceAdd z (constant S_ .f32 0x00000000#32) reducesTo_S1x2048x16000_S1x2048_d2 h_S_
/-- A row over one number. -/
def dv16000 (z : FVec Ideal S1x2048x16000 .f32) (y : FVec Ideal S1x2048 .f32) : FVec Ideal S1x2048x16000 .f32 :=
  Host.divf z (broadcastInDim S1x2048x16000 ![0, 1, 2] bcast_S1x2048x1_S1x2048x16000_0_1_2 (broadcastInDim S1x2048x1 ![0, 1] bcast_S1x2048_S1x2048x1_0_1 y))
/-- The rows' softmax. -/
def smx16000 (z : FVec Ideal S1x2048x16000 .f32) : FVec Ideal S1x2048x16000 .f32 := dv16000 (ex16000 z (mx16000 z)) (sm16000 (ex16000 z (mx16000 z)))

theorem mx16000_apply (z : FVec Ideal S1x2048x16000 .f32) (s : Fin 2048) : mx16000 z (ix2 0 s) = top (fun v => z (ix3 0 s v)) := by
  pointwise [mx16000]
  simp only [negInf_eq, top]
theorem ex16000_apply (z : FVec Ideal S1x2048x16000 .f32) (y : FVec Ideal S1x2048 .f32) (s : Fin 2048) (v : Fin 16000) :
    ex16000 z y (ix3 0 s v) = Ideal.exp (z (ix3 0 s v) - y (ix2 0 s)) := by
  pointwise [ex16000]
  simp only [negInf_eq, max_bot_left]
theorem sm16000_apply (z : FVec Ideal S1x2048x16000 .f32) (s : Fin 2048) : sm16000 z (ix2 0 s) = ∑ v, z (ix3 0 s v) := by
  pointwise [sm16000]
theorem dv16000_apply (z : FVec Ideal S1x2048x16000 .f32) (y : FVec Ideal S1x2048 .f32) (s : Fin 2048) (v : Fin 16000) :
    dv16000 z y (ix3 0 s v) = Ideal.div (z (ix3 0 s v)) (y (ix2 0 s)) := by
  pointwise [dv16000]
theorem smx16000_apply (z : FVec Ideal S1x2048x16000 .f32) (s : Fin 2048) (v : Fin 16000) : smx16000 z (ix3 0 s v) = soft (fun v => z (ix3 0 s v)) v := by
  unfold smx16000 soft mass
  rw [dv16000_apply, sm16000_apply, ex16000_apply, mx16000_apply]
  refine congrArg _ (Finset.sum_congr rfl fun k _ => ?_)
  rw [ex16000_apply, mx16000_apply]

/-- Each row's largest entry. -/
def mx80000 (z : FVec Ideal S1x2048x80000 .f32) : FVec Ideal S1x2048 .f32 :=
  Host.reduce FloatOps.maximumf z (constant S_ .f32 0xFF800000#32) reducesTo_S1x2048x80000_S1x2048_d2 h_S_
/-- The exponentials of a row taken from `y`. -/
def ex80000 (z : FVec Ideal S1x2048x80000 .f32) (y : FVec Ideal S1x2048 .f32) : FVec Ideal S1x2048x80000 .f32 :=
  Host.exp (subf z (broadcastInDim S1x2048x80000 ![0, 1, 2] bcast_S1x2048x1_S1x2048x80000_0_1_2 (broadcastInDim S1x2048x1 ![0, 1] bcast_S1x2048_S1x2048x1_0_1
    (maximumf (broadcastInDim S1x2048 ![] bcast_S_S1x2048 (constant S_ .f32 0xFF800000#32)) y))))
/-- Each row summed. -/
def sm80000 (z : FVec Ideal S1x2048x80000 .f32) : FVec Ideal S1x2048 .f32 :=
  Host.reduceAdd z (constant S_ .f32 0x00000000#32) reducesTo_S1x2048x80000_S1x2048_d2 h_S_
/-- A row over one number. -/
def dv80000 (z : FVec Ideal S1x2048x80000 .f32) (y : FVec Ideal S1x2048 .f32) : FVec Ideal S1x2048x80000 .f32 :=
  Host.divf z (broadcastInDim S1x2048x80000 ![0, 1, 2] bcast_S1x2048x1_S1x2048x80000_0_1_2 (broadcastInDim S1x2048x1 ![0, 1] bcast_S1x2048_S1x2048x1_0_1 y))
/-- The rows' softmax. -/
def smx80000 (z : FVec Ideal S1x2048x80000 .f32) : FVec Ideal S1x2048x80000 .f32 := dv80000 (ex80000 z (mx80000 z)) (sm80000 (ex80000 z (mx80000 z)))

theorem mx80000_apply (z : FVec Ideal S1x2048x80000 .f32) (s : Fin 2048) : mx80000 z (ix2 0 s) = top (fun v => z (ix3 0 s v)) := by
  pointwise [mx80000]
  simp only [negInf_eq, top]
theorem ex80000_apply (z : FVec Ideal S1x2048x80000 .f32) (y : FVec Ideal S1x2048 .f32) (s : Fin 2048) (v : Fin 80000) :
    ex80000 z y (ix3 0 s v) = Ideal.exp (z (ix3 0 s v) - y (ix2 0 s)) := by
  pointwise [ex80000]
  simp only [negInf_eq, max_bot_left]
theorem sm80000_apply (z : FVec Ideal S1x2048x80000 .f32) (s : Fin 2048) : sm80000 z (ix2 0 s) = ∑ v, z (ix3 0 s v) := by
  pointwise [sm80000]
theorem dv80000_apply (z : FVec Ideal S1x2048x80000 .f32) (y : FVec Ideal S1x2048 .f32) (s : Fin 2048) (v : Fin 80000) :
    dv80000 z y (ix3 0 s v) = Ideal.div (z (ix3 0 s v)) (y (ix2 0 s)) := by
  pointwise [dv80000]
theorem smx80000_apply (z : FVec Ideal S1x2048x80000 .f32) (s : Fin 2048) (v : Fin 80000) : smx80000 z (ix3 0 s v) = soft (fun v => z (ix3 0 s v)) v := by
  unfold smx80000 soft mass
  rw [dv80000_apply, sm80000_apply, ex80000_apply, mx80000_apply]
  refine congrArg _ (Finset.sum_congr rfl fun k _ => ?_)
  rw [ex80000_apply, mx80000_apply]

/-- An affine layer. -/
def lg4002 (x : FVec Ideal S1x2048x768 .f32) (w : FVec Ideal S768x4002 .f32) (b : FVec Ideal S4002 .f32) : FVec Ideal S1x2048x4002 .f32 :=
  addf (Host.dotGeneral dot_S1x2048x768_S768x4002_S1x2048x4002_2_0_01_1_n_n none x w)
    (broadcastInDim S1x2048x4002 ![0, 1, 2] bcast_S1x1x4002_S1x2048x4002_0_1_2 (broadcastInDim S1x1x4002 ![2] bcast_S4002_S1x1x4002_2 b))
theorem lg4002_apply (x : FVec Ideal S1x2048x768 .f32) (w : FVec Ideal S768x4002 .f32) (b : FVec Ideal S4002 .f32) (s : Fin 2048) (v : Fin 4002) :
    lg4002 x w b (ix3 0 s v) = aff (fun h => x (ix3 0 s h)) (fun h => w (ix2 h v)) (b (ix1 v)) := by
  pointwise [lg4002]
  simp only [aff]

/-- An affine layer. -/
def lg192 (x : FVec Ideal S1x2048x768 .f32) (w : FVec Ideal S768x192 .f32) (b : FVec Ideal S192 .f32) : FVec Ideal S1x2048x192 .f32 :=
  addf (Host.dotGeneral dot_S1x2048x768_S768x192_S1x2048x192_2_0_01_1_n_n none x w)
    (broadcastInDim S1x2048x192 ![0, 1, 2] bcast_S1x1x192_S1x2048x192_0_1_2 (broadcastInDim S1x1x192 ![2] bcast_S192_S1x1x192_2 b))
theorem lg192_apply (x : FVec Ideal S1x2048x768 .f32) (w : FVec Ideal S768x192 .f32) (b : FVec Ideal S192 .f32) (s : Fin 2048) (v : Fin 192) :
    lg192 x w b (ix3 0 s v) = aff (fun h => x (ix3 0 s h)) (fun h => w (ix2 h v)) (b (ix1 v)) := by
  pointwise [lg192]
  simp only [aff]

/-- An affine layer. -/
def lg48 (x : FVec Ideal S1x2048x768 .f32) (w : FVec Ideal S768x48 .f32) (b : FVec Ideal S48 .f32) : FVec Ideal S1x2048x48 .f32 :=
  addf (Host.dotGeneral dot_S1x2048x768_S768x48_S1x2048x48_2_0_01_1_n_n none x w)
    (broadcastInDim S1x2048x48 ![0, 1, 2] bcast_S1x1x48_S1x2048x48_0_1_2 (broadcastInDim S1x1x48 ![2] bcast_S48_S1x1x48_2 b))
theorem lg48_apply (x : FVec Ideal S1x2048x768 .f32) (w : FVec Ideal S768x48 .f32) (b : FVec Ideal S48 .f32) (s : Fin 2048) (v : Fin 48) :
    lg48 x w b (ix3 0 s v) = aff (fun h => x (ix3 0 s h)) (fun h => w (ix2 h v)) (b (ix1 v)) := by
  pointwise [lg48]
  simp only [aff]

/-- An affine layer. -/
def lg16000 (x : FVec Ideal S1x2048x192 .f32) (w : FVec Ideal S192x16000 .f32) (b : FVec Ideal S16000 .f32) : FVec Ideal S1x2048x16000 .f32 :=
  addf (Host.dotGeneral dot_S1x2048x192_S192x16000_S1x2048x16000_2_0_01_1_n_n none x w)
    (broadcastInDim S1x2048x16000 ![0, 1, 2] bcast_S1x1x16000_S1x2048x16000_0_1_2 (broadcastInDim S1x1x16000 ![2] bcast_S16000_S1x1x16000_2 b))
theorem lg16000_apply (x : FVec Ideal S1x2048x192 .f32) (w : FVec Ideal S192x16000 .f32) (b : FVec Ideal S16000 .f32) (s : Fin 2048) (v : Fin 16000) :
    lg16000 x w b (ix3 0 s v) = aff (fun h => x (ix3 0 s h)) (fun h => w (ix2 h v)) (b (ix1 v)) := by
  pointwise [lg16000]
  simp only [aff]

/-- An affine layer. -/
def lg80000 (x : FVec Ideal S1x2048x48 .f32) (w : FVec Ideal S48x80000 .f32) (b : FVec Ideal S80000 .f32) : FVec Ideal S1x2048x80000 .f32 :=
  addf (Host.dotGeneral dot_S1x2048x48_S48x80000_S1x2048x80000_2_0_01_1_n_n none x w)
    (broadcastInDim S1x2048x80000 ![0, 1, 2] bcast_S1x1x80000_S1x2048x80000_0_1_2 (broadcastInDim S1x1x80000 ![2] bcast_S80000_S1x1x80000_2 b))
theorem lg80000_apply (x : FVec Ideal S1x2048x48 .f32) (w : FVec Ideal S48x80000 .f32) (b : FVec Ideal S80000 .f32) (s : Fin 2048) (v : Fin 80000) :
    lg80000 x w b (ix3 0 s v) = aff (fun h => x (ix3 0 s h)) (fun h => w (ix2 h v)) (b (ix1 v)) := by
  pointwise [lg80000]
  simp only [aff]

/-- A tail's softmax times its gate, a column of the head's softmax. -/
def gt16000 (t : FVec Ideal S1x2048x16000 .f32) (h : FVec Ideal S1x2048x4002 .f32) : FVec Ideal S1x2048x16000 .f32 :=
  mulf t (broadcastInDim S1x2048x16000 ![0, 1, 2] bcast_S1x2048x1_S1x2048x16000_0_1_2 (extractStridedSlice S1x2048x1 ![0, 0, 4000] h slices_S1x2048x4002_S1x2048x1_0_0_4000))
theorem gt16000_apply (t : FVec Ideal S1x2048x16000 .f32) (h : FVec Ideal S1x2048x4002 .f32) (s : Fin 2048) (v : Fin 16000) :
    gt16000 t h (ix3 0 s v) = t (ix3 0 s v) * h (ix3 0 s 4000) := by
  pointwise [gt16000]

/-- A tail's softmax times its gate, a column of the head's softmax. -/
def gt80000 (t : FVec Ideal S1x2048x80000 .f32) (h : FVec Ideal S1x2048x4002 .f32) : FVec Ideal S1x2048x80000 .f32 :=
  mulf t (broadcastInDim S1x2048x80000 ![0, 1, 2] bcast_S1x2048x1_S1x2048x80000_0_1_2 (extractStridedSlice S1x2048x1 ![0, 0, 4001] h slices_S1x2048x4002_S1x2048x1_0_0_4001))
theorem gt80000_apply (t : FVec Ideal S1x2048x80000 .f32) (h : FVec Ideal S1x2048x4002 .f32) (s : Fin 2048) (v : Fin 80000) :
    gt80000 t h (ix3 0 s v) = t (ix3 0 s v) * h (ix3 0 s 4001) := by
  pointwise [gt80000]

/-- The head's words, then one tail's. -/
def ct1 (h : FVec Ideal S1x2048x4002 .f32) (b : FVec Ideal S1x2048x16000 .f32) : FVec Ideal S1x2048x20000 .f32 :=
  concatenate S1x2048x20000 2 [⟨S1x2048x4000, extractStridedSlice S1x2048x4000 ![0, 0, 0] h slices_S1x2048x4002_S1x2048x4000_0_0_0⟩, ⟨S1x2048x16000, b⟩] concatenates_S1x2048x4000_S1x2048x16000_S1x2048x20000_d2
/-- These, then the other tail's. -/
def ct2 (a : FVec Ideal S1x2048x20000 .f32) (b : FVec Ideal S1x2048x80000 .f32) : FVec Ideal S1x2048x100000 .f32 :=
  concatenate S1x2048x100000 2 [⟨S1x2048x20000, a⟩, ⟨S1x2048x80000, b⟩] concatenates_S1x2048x20000_S1x2048x80000_S1x2048x100000_d2
theorem ct1_apply (h : FVec Ideal S1x2048x4002 .f32) (b : FVec Ideal S1x2048x16000 .f32) (s : Fin 2048) (v : Fin 20000) :
    ct1 h b (ix3 0 s v) = if hv : v.val < 4000 then h (ix3 0 s ⟨v.val, by omega⟩) else b (ix3 0 s ⟨v.val - 4000, by omega⟩) := by
  pointwise [ct1]
theorem ct2_apply (a : FVec Ideal S1x2048x20000 .f32) (b : FVec Ideal S1x2048x80000 .f32) (s : Fin 2048) (v : Fin 100000) :
    ct2 a b (ix3 0 s v) = if hv : v.val < 20000 then a (ix3 0 s ⟨v.val, hv⟩) else b (ix3 0 s ⟨v.val - 20000, by omega⟩) := by
  pointwise [ct2]

/-- The whole formula, in these steps. -/
def formula (x : FVec Ideal S1x2048x768 .f32) (hw : FVec Ideal S768x4002 .f32) (hb : FVec Ideal S4002 .f32) (p1 : FVec Ideal S768x192 .f32) (q1 : FVec Ideal S192 .f32)
    (w1 : FVec Ideal S192x16000 .f32) (b1 : FVec Ideal S16000 .f32) (p2 : FVec Ideal S768x48 .f32) (q2 : FVec Ideal S48 .f32) (w2 : FVec Ideal S48x80000 .f32) (b2 : FVec Ideal S80000 .f32) :
    FVec Ideal S1x2048x100000 .f32 :=
  ct2 (ct1 (smx4002 (lg4002 x hw hb)) (gt16000 (smx16000 (lg16000 (lg192 x p1 q1) w1 b1)) (smx4002 (lg4002 x hw hb))))
    (gt80000 (smx80000 (lg80000 (lg48 x p2 q2) w2 b2)) (smx4002 (lg4002 x hw hb)))

theorem formula_apply (x : FVec Ideal S1x2048x768 .f32) (hw : FVec Ideal S768x4002 .f32) (hb : FVec Ideal S4002 .f32) (p1 : FVec Ideal S768x192 .f32) (q1 : FVec Ideal S192 .f32)
    (w1 : FVec Ideal S192x16000 .f32) (b1 : FVec Ideal S16000 .f32) (p2 : FVec Ideal S768x48 .f32) (q2 : FVec Ideal S48 .f32) (w2 : FVec Ideal S48x80000 .f32) (b2 : FVec Ideal S80000 .f32)
    (s : Fin 2048) (v : Fin 100000) : formula x hw hb p1 q1 w1 b1 p2 q2 w2 b2 (ix3 0 s v) = word x hw hb p1 q1 w1 b1 p2 q2 w2 b2 s v := by
  have e0 : (fun d => lg4002 x hw hb (ix3 0 s d)) = dense x hw hb s := funext fun d => lg4002_apply x hw hb s d
  have e1 : (fun d => lg192 x p1 q1 (ix3 0 s d)) = dense x p1 q1 s := funext fun d => lg192_apply x p1 q1 s d
  have e2 : (fun d => lg48 x p2 q2 (ix3 0 s d)) = dense x p2 q2 s := funext fun d => lg48_apply x p2 q2 s d
  have e3 : (fun d => lg16000 (lg192 x p1 q1) w1 b1 (ix3 0 s d)) = logits x p1 q1 w1 b1 s := funext fun d => by
    rw [lg16000_apply, e1]; rfl
  have e4 : (fun d => lg80000 (lg48 x p2 q2) w2 b2 (ix3 0 s d)) = logits x p2 q2 w2 b2 s := funext fun d => by
    rw [lg80000_apply, e2]; rfl
  unfold formula word
  rw [ct2_apply]
  split
  · rw [ct1_apply]
    split
    · rw [smx4002_apply, e0]
    · rw [gt16000_apply, smx16000_apply, smx4002_apply, e0, e3]
  · rw [gt80000_apply, smx80000_apply, smx4002_apply, e0, e4]

variable (m : (ℓ : Loc nD τ sig) → Buf (Elt Ideal) ℓ) (c : Dev nD)

theorem res_formula : res_main_v61 (F := Ideal) m c = formula (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9)) (m (c.tc.loc main_arg10)) := by
  unfold res_main_v61
  rfl

/-- The reference's result, read at one word of one row. -/
theorem res_word (s : Fin 2048) (v : Fin 100000) : res_main_v61 (F := Ideal) m c (ix3 0 s v)
    = word (m (c.tc.loc main_arg0)) (m (c.tc.loc main_arg1)) (m (c.tc.loc main_arg2)) (m (c.tc.loc main_arg3)) (m (c.tc.loc main_arg4))
        (m (c.tc.loc main_arg5)) (m (c.tc.loc main_arg6)) (m (c.tc.loc main_arg7)) (m (c.tc.loc main_arg8)) (m (c.tc.loc main_arg9)) (m (c.tc.loc main_arg10)) s v :=
  (congrFun (res_formula m c) _).trans (formula_apply _ _ _ _ _ _ _ _ _ _ _ s v)

end Cert.ReferenceIdeal.Value

end
-- ==== Proof.Finite.lean ====
/- The precondition read back: its side conditions hold, and where it holds every element of every argument is a real number. -/
module

public import proofs.«01_k».proof.Defs
public import Idealize.ShloMosaic.Lib.ReduceAll
public import Idealize.ShloMosaic.Lib.Pointwise
public import proofs.«01_k».proof.Proof.WriteValue

@[expose] public section

noncomputable section

namespace Cert.Finite

open Idealize.ShloMosaic Cert.Pre_all_finite Cert.Soft

/-- The side conditions the precondition's operations take. -/
instance facts : Cert.Pre_all_finite.Facts where
  h_S_ := by decide
  bcast_S_S1x2048x768 := by decide
  reducesTo_S1x2048x768_S_d0_1_2 := by decide
  bcast_S_S768x4002 := by decide
  reducesTo_S768x4002_S_d0_1 := by decide
  bcast_S_S4002 := by decide
  reducesTo_S4002_S_d0 := by decide
  bcast_S_S768x192 := by decide
  reducesTo_S768x192_S_d0_1 := by decide
  bcast_S_S192 := by decide
  reducesTo_S192_S_d0 := by decide
  bcast_S_S192x16000 := by decide
  reducesTo_S192x16000_S_d0_1 := by decide
  bcast_S_S16000 := by decide
  reducesTo_S16000_S_d0 := by decide
  bcast_S_S768x48 := by decide
  reducesTo_S768x48_S_d0_1 := by decide
  bcast_S_S48 := by decide
  reducesTo_S48_S_d0 := by decide
  bcast_S_S48x80000 := by decide
  reducesTo_S48x80000_S_d0_1 := by decide
  bcast_S_S80000 := by decide
  reducesTo_S80000_S_d0 := by decide

/-- An extended real whose absolute value is below the word of infinity is a real number. -/
theorem isR_of_lt {x : Ideal .f32} (h : FloatOps.cmpf .olt (FloatOps.hostAbsf x) (FloatOps.ofBits (F := Ideal) .f32 0x7F800000#32) = 1#1) : IsR (x : EReal) := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    simp [Ideal.cmp, hn] at h'
  rw [max_lt_iff] at hlt
  refine ⟨(x : EReal).toReal, (EReal.coe_toReal hlt.1.ne ?_).symm⟩
  intro hb
  rw [hb] at hlt
  simp at hlt

/-- A test of all elements that came out one: every element is a real number. -/
theorem isR_all {s t u : Shape} {axes : List (Fin s.rank)} [Subsingleton t.Idx] (x : FVec Ideal s .f32) (b : Shape.BroadcastsInDim ⟨0, ![]⟩ s (![] : Fin 0 → Fin s.rank))
    (init : u.Idx → BitVec 1) (h : s.ReducesTo axes t) (hu : 0 < u.numel) (j : t.Idx)
    (e : Host.reduce IntOp.andi (cmpf .olt (Host.absf x) (broadcastInDim s ![] b (constant (F := Ideal) ⟨0, ![]⟩ .f32 0x7F800000#32))) init h hu j = 1#1) (i : s.Idx) : IsR (x i : EReal) :=
  isR_of_lt (Host.reduce_andi_all _ _ _ _ j e i)

instance : Subsingleton S_.Idx := ⟨fun a b => funext fun i => i.elim0⟩

/-- A conjunction that came out one, taken apart. -/
theorem both {x y : IVec S_ 1} {j : S_.Idx} (h : andi x y j = 1#1) : x j = 1#1 ∧ y j = 1#1 := IntOp.andi_eq_one.1 h

/-- Under the precondition every argument's elements are real numbers. -/
theorem reals (m : (ℓ : Loc Cert.KernelIdeal.nD Cert.KernelIdeal.τ Cert.KernelIdeal.sig) → Buf (Elt Ideal) ℓ) (h : Cert.Pre_KernelIdeal_all_finite m) (c : Dev Cert.KernelIdeal.nD) : Cert.KernelIdeal.Gen.Reals m c := by
  have e := congrFun (h c) (Shape.Idx.first Facts.h_S_)
  unfold fn fn_part1 fn_part2 fn_part3 at e
  obtain ⟨e, e10⟩ := both e
  obtain ⟨e, e9⟩ := both e
  obtain ⟨e, e8⟩ := both e
  obtain ⟨e, e7⟩ := both e
  obtain ⟨e, e6⟩ := both e
  obtain ⟨e, e5⟩ := both e
  obtain ⟨e, e4⟩ := both e
  obtain ⟨e, e3⟩ := both e
  obtain ⟨e, e2⟩ := both e
  obtain ⟨e, e1⟩ := both e
  exact ⟨isR_all _ _ _ _ _ _ e, isR_all _ _ _ _ _ _ e1, isR_all _ _ _ _ _ _ e2, isR_all _ _ _ _ _ _ e3, isR_all _ _ _ _ _ _ e4, isR_all _ _ _ _ _ _ e5, isR_all _ _ _ _ _ _ e6, isR_all _ _ _ _ _ _ e7, isR_all _ _ _ _ _ _ e8, isR_all _ _ _ _ _ _ e9, isR_all _ _ _ _ _ _ e10⟩

end Cert.Finite

end
-- ==== Proof.ValueEq.lean ====
module

public import proofs.«01_k».proof.Defs
public import proofs.«01_k».proof.Proof.Frames
public import proofs.«01_k».proof.Proof.WriteValue
public import proofs.«01_k».proof.Proof.RefValue
public import proofs.«01_k».proof.Proof.Finite

@[expose] public section

noncomputable section

namespace Cert.Proof

open Idealize.ShloMosaic Idealize.SL.Sem Cert.Soft

/-- The frame of the kernel under the precondition. -/
theorem frame_kernelIdeal_pre : Cert.quiescent_KernelIdeal_pre_all_finite (hKernelIdeal := Cert.KernelIdeal.Gen.facts) (hPre_all_finite := Cert.Finite.facts) :=
  fun m ρ _ => frame_kernelIdeal m ρ trivial

/-- The frame of the reference under the precondition. -/
theorem frame_referenceIdeal_pre : Cert.quiescent_ReferenceIdeal_pre_all_finite (hReferenceIdeal := Cert.ReferenceIdeal.Gen.facts) (hPre_all_finite := Cert.Finite.facts) :=
  fun m ρ _ => frame_referenceIdeal m ρ trivial

/-- The result both programs leave: at each token and word, the adaptive softmax of the arguments. -/
def value (m : (ℓ : Loc Cert.KernelIdeal.nD Cert.KernelIdeal.τ Cert.KernelIdeal.sig) → Buf (Elt Ideal) ℓ) (c : Dev Cert.KernelIdeal.nD) : (⟨3, ![1, 2048, 100000]⟩ : Shape).Idx → EReal := fun i =>
  word (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) (m (c.tc.loc Cert.KernelIdeal.main_arg5)) (m (c.tc.loc Cert.KernelIdeal.main_arg6)) (m (c.tc.loc Cert.KernelIdeal.main_arg7)) (m (c.tc.loc Cert.KernelIdeal.main_arg8)) (m (c.tc.loc Cert.KernelIdeal.main_arg9)) (m (c.tc.loc Cert.KernelIdeal.main_arg10)) (i 1) (i 2)

/-- An index of the result is its token and its word. -/
theorem at_token (i : (⟨3, ![1, 2048, 100000]⟩ : Shape).Idx) : i = ix3 0 (i 1) (i 2) := by
  funext a
  fin_cases a
  · exact Subsingleton.elim (α := Fin 1) _ _
  · rfl
  · rfl

/-- The kernel and the reference end with one result. -/
theorem value_eq : Cert.algebraic_KernelIdeal_ReferenceIdeal_pre_all_finite (hKernelIdeal := Cert.KernelIdeal.Gen.facts) (hReferenceIdeal := Cert.ReferenceIdeal.Gen.facts)
    (hPre_all_finite := Cert.Finite.facts) := by
  intro m ρ m' ρ' hpre hm
  refine ⟨value m, ?_, ?_⟩
  · refine (θ_run (Cert.KernelIdeal.defs (F := Ideal)) _ _).mono (fun r h c => ?_) (Cert.KernelIdeal.Gen.run_ends (F := Ideal) m ρ)
    obtain ⟨a0, a1, a2, a3, a4, a5, a6, a7, a8, a9, a10, G, hG, hv⟩ := h.1 c
    refine ⟨hv.trans ?_, a0, a1, a2, a3, a4, a5, a6, a7, a8, a9, a10⟩
    have key : ∀ i : (⟨3, ![1, 2048, 100000]⟩ : Shape).Idx, (StableHlo.after Cert.KernelIdeal.Gen.hostOps2 (Cert.KernelIdeal.Gen.U3 (F := Ideal) m c G) (Proc.devRef .tc Cert.KernelIdeal.main_v14) : A3 1 2048 100000) i = value m c i := fun i => by
      rw [at_token i]
      exact Cert.KernelIdeal.Gen.v14_word (Cert.Finite.reals m hpre c) G hG (i 1) (i 2)
    exact funext key
  · refine (θ_run (Cert.ReferenceIdeal.defs (F := Ideal)) _ _).mono (fun r h c => ?_) (Cert.ReferenceIdeal.Value.run (F := Ideal) m' ρ')
    refine ⟨(h c).1.trans ?_, (h c).2⟩
    obtain ⟨e0, e1, e2, e3, e4, e5, e6, e7, e8, e9, e10⟩ := hm c
    have key : ∀ i : (⟨3, ![1, 2048, 100000]⟩ : Shape).Idx, (Cert.ReferenceIdeal.Value.res_main_v61 (F := Ideal) m' c : A3 1 2048 100000) i = value m c i := fun i => by
      rw [at_token i]
      refine (Cert.ReferenceIdeal.Value.res_word m' c (i 1) (i 2)).trans ?_
      rw [e0, e1, e2, e3, e4, e5, e6, e7, e8, e9, e10]
      rfl
    exact funext key

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.ValueEq
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Finite.facts,
  frame_kernel, frame_kernelIdeal, frame_kernelIdeal_pre, frame_referenceIdeal, frame_referenceIdeal_pre, trivial, value_eq⟩

end Cert.Proof

end
